-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.named_const.Statement Cert.Kernel3Ideal.κ "alpha" .f32 0x3F9837F0#32 ((Real.sqrt (Real.sqrt 2) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
-- ==== Kernel.lean ====
abbrev S65536x5376 : Shape := ⟨2, ![65536, 5376]⟩
abbrev S1x512 : Shape := ⟨2, ![1, 512]⟩
abbrev S1x128 : Shape := ⟨2, ![1, 128]⟩
abbrev S65536x512 : Shape := ⟨2, ![65536, 512]⟩
abbrev S256x512 : Shape := ⟨2, ![256, 512]⟩
abbrev S4x128x128 : Shape := ⟨3, ![4, 128, 128]⟩
abbrev S64x64 : Shape := ⟨2, ![64, 64]⟩
abbrev S64x512 : Shape := ⟨2, ![64, 512]⟩
abbrev S64x128 : Shape := ⟨2, ![64, 128]⟩
abbrev S1x128x128 : Shape := ⟨3, ![1, 128, 128]⟩
abbrev S128x128 : Shape := ⟨2, ![128, 128]⟩
abbrev S128x64 : Shape := ⟨2, ![128, 64]⟩
abbrev S64 : Shape := ⟨1, ![64]⟩
abbrev S64x1 : Shape := ⟨2, ![64, 1]⟩

abbrev nBuf : Space → Nat
  | .hbm => 4
  | .vmem => 13
  | .smem => 0
  | _ => 0

abbrev bufTy : (tb : Table) → Fin (tcTables nBuf tb) → BufTy
  | .hbm, ⟨0, _⟩ => ⟨S65536x5376, .f32⟩
  | .hbm, ⟨1, _⟩ => ⟨S1x512, .f32⟩
  | .hbm, ⟨2, _⟩ => ⟨S1x128, .f32⟩
  | .hbm, ⟨3, _⟩ => ⟨S65536x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x128, .f32⟩
  | .local _ .vmem, ⟨10, _⟩ => ⟨S256x512, .f32⟩
  | .local _ .vmem, ⟨11, _⟩ => ⟨S256x512, .f32⟩
  | .local _ .vmem, ⟨12, _⟩ => ⟨S4x128x128, .f32⟩
  | _, _ => ⟨S65536x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S65536x5376 : Shape := ⟨2, ![65536, 5376]⟩
abbrev S1x512 : Shape := ⟨2, ![1, 512]⟩
abbrev S1x128 : Shape := ⟨2, ![1, 128]⟩
abbrev S65536x512 : Shape := ⟨2, ![65536, 512]⟩
abbrev S32x2048x4x128 : Shape := ⟨4, ![32, 2048, 4, 128]⟩
abbrev S4x128 : Shape := ⟨2, ![4, 128]⟩
abbrev S_ : Shape := ⟨0, ![]⟩
abbrev S1x1x4x128 : Shape := ⟨4, ![1, 1, 4, 128]⟩
abbrev S32x32x64x4x128 : Shape := ⟨5, ![32, 32, 64, 4, 128]⟩
abbrev S32x4x32x64x128 : Shape := ⟨5, ![32, 4, 32, 64, 128]⟩
abbrev S32x4x32x1x128 : Shape := ⟨5, ![32, 4, 32, 1, 128]⟩
abbrev S64x64 : Shape := ⟨2, ![64, 64]⟩
abbrev S32x4x32x64x64 : Shape := ⟨5, ![32, 4, 32, 64, 64]⟩
abbrev S32x4x32x128x128 : Shape := ⟨5, ![32, 4, 32, 128, 128]⟩
abbrev S32x4x32x128 : Shape := ⟨4, ![32, 4, 32, 128]⟩
abbrev S32x4x128x128 : Shape := ⟨4, ![32, 4, 128, 128]⟩
abbrev S32x32x4x128x128 : Shape := ⟨5, ![32, 32, 4, 128, 128]⟩
abbrev S32x32x4x128 : Shape := ⟨4, ![32, 32, 4, 128]⟩
abbrev S1x32x4x128x128 : Shape := ⟨5, ![1, 32, 4, 128, 128]⟩
abbrev S1x32x4x128 : Shape := ⟨4, ![1, 32, 4, 128]⟩
abbrev S32x4x128 : Shape := ⟨3, ![32, 4, 128]⟩
abbrev S32x4x128x1 : Shape := ⟨4, ![32, 4, 128, 1]⟩
abbrev S32x2048x4 : Shape := ⟨3, ![32, 2048, 4]⟩
abbrev S32x2048x4x1 : Shape := ⟨4, ![32, 2048, 4, 1]⟩
abbrev S128 : Shape := ⟨1, ![128]⟩
abbrev S1x1x1x128 : Shape := ⟨4, ![1, 1, 1, 128]⟩

abbrev nBuf : Space → Nat
  | .hbm => 163
  | .vmem => 0
  | .smem => 0
  | _ => 0

abbrev hbmTy0_0 (i : Nat) : BufTy := match i % 128 with
  | 0 => ⟨S65536x5376, .f32⟩
  | 1 => ⟨S1x512, .f32⟩
  | 2 => ⟨S1x128, .f32⟩
  | 3 => ⟨S65536x512, .f32⟩
  | 4 => ⟨S32x2048x4x128, .f32⟩
  | 5 => ⟨S65536x512, .f32⟩
  | 6 => ⟨S32x2048x4x128, .f32⟩
  | 7 => ⟨S65536x512, .f32⟩
  | 8 => ⟨S32x2048x4x128, .f32⟩
  | 9 => ⟨S65536x512, .f32⟩
  | 10 => ⟨S32x2048x4x128, .f32⟩
  | 11 => ⟨S4x128, .f32⟩
  | 12 => ⟨S_, .f32⟩
  | 13 => ⟨S4x128, .f32⟩
  | 14 => ⟨S4x128, .f32⟩
  | 15 => ⟨S32x2048x4x128, .f32⟩
  | 16 => ⟨S32x2048x4x128, .f32⟩
  | 17 => ⟨S_, .f32⟩
  | 18 => ⟨S32x2048x4x128, .f32⟩
  | 19 => ⟨S32x2048x4x128, .f32⟩
  | 20 => ⟨S_, .f32⟩
  | 21 => ⟨S32x2048x4x128, .f32⟩
  | 22 => ⟨S32x2048x4x128, .f32⟩
  | 23 => ⟨S1x1x4x128, .f32⟩
  | 24 => ⟨S32x2048x4x128, .f32⟩
  | 25 => ⟨S32x2048x4x128, .f32⟩
  | 26 => ⟨S1x1x4x128, .f32⟩
  | 27 => ⟨S32x2048x4x128, .f32⟩
  | 28 => ⟨S32x2048x4x128, .f32⟩
  | 29 => ⟨S32x2048x4x128, .f32⟩
  | 30 => ⟨S_, .f32⟩
  | 31 => ⟨S4x128, .f32⟩
  | 32 => ⟨S4x128, .f32⟩
  | 33 => ⟨S32x2048x4x128, .f32⟩
  | 34 => ⟨S32x2048x4x128, .f32⟩
  | 35 => ⟨S32x2048x4x128, .f32⟩
  | 36 => ⟨S_, .f32⟩
  | 37 => ⟨S32x2048x4x128, .f32⟩
  | 38 => ⟨S32x2048x4x128, .f32⟩
  | 39 => ⟨S_, .f32⟩
  | 40 => ⟨S32x2048x4x128, .f32⟩
  | 41 => ⟨S32x2048x4x128, .f32⟩
  | 42 => ⟨S1x1x4x128, .f32⟩
  | 43 => ⟨S32x2048x4x128, .f32⟩
  | 44 => ⟨S32x2048x4x128, .f32⟩
  | 45 => ⟨S32x32x64x4x128, .f32⟩
  | 46 => ⟨S32x4x32x64x128, .f32⟩
  | 47 => ⟨S32x32x64x4x128, .f32⟩
  | 48 => ⟨S32x4x32x64x128, .f32⟩
  | 49 => ⟨S32x32x64x4x128, .f32⟩
  | 50 => ⟨S32x4x32x64x128, .f32⟩
  | 51 => ⟨S32x32x64x4x128, .f32⟩
  | 52 => ⟨S32x4x32x64x128, .f32⟩
  | 53 => ⟨S_, .f32⟩
  | 54 => ⟨S_, .f32⟩
  | 55 => ⟨S32x4x32x64x128, .f32⟩
  | 56 => ⟨S32x4x32x1x128, .f32⟩
  | 57 => ⟨S32x4x32x64x128, .f32⟩
  | 58 => ⟨S32x4x32x64x128, .f32⟩
  | 59 => ⟨S32x4x32x64x128, .f32⟩
  | 60 => ⟨S32x4x32x64x128, .f32⟩
  | 61 => ⟨S32x4x32x64x128, .f32⟩
  | 62 => ⟨S32x4x32x64x128, .f32⟩
  | 63 => ⟨S32x4x32x64x128, .f32⟩
  | 64 => ⟨S32x4x32x64x128, .f32⟩
  | 65 => ⟨S_, .i1⟩
  | 66 => ⟨S64x64, .i1⟩
  | 67 => ⟨S64x64, .i32⟩
  | 68 => ⟨S_, .i32⟩
  | 69 => ⟨S64x64, .i32⟩
  | 70 => ⟨S64x64, .i32⟩
  | 71 => ⟨S64x64, .i32⟩
  | 72 => ⟨S64x64, .i1⟩
  | 73 => ⟨S_, .i1⟩
  | 74 => ⟨S64x64, .i1⟩
  | 75 => ⟨S64x64, .i1⟩
  | 76 => ⟨S32x4x32x64x64, .f32⟩
  | 77 => ⟨S_, .f32⟩
  | 78 => ⟨S_, .f32⟩
  | 79 => ⟨S32x4x32x64x64, .i1⟩
  | 80 => ⟨S32x4x32x64x64, .f32⟩
  | 81 => ⟨S32x4x32x64x64, .f32⟩
  | 82 => ⟨S32x4x32x64x128, .f32⟩
  | 83 => ⟨S32x4x32x1x128, .f32⟩
  | 84 => ⟨S32x4x32x64x128, .f32⟩
  | 85 => ⟨S32x4x32x64x128, .f32⟩
  | 86 => ⟨S32x4x32x64x128, .f32⟩
  | 87 => ⟨S32x4x32x64x128, .f32⟩
  | 88 => ⟨S32x4x32x128x128, .f32⟩
  | 89 => ⟨S32x4x32x128, .f32⟩
  | 90 => ⟨S32x4x32x128, .f32⟩
  | 91 => ⟨S_, .f32⟩
  | 92 => ⟨S32x4x128x128, .f32⟩
  | 93 => ⟨S32x32x4x128x128, .f32⟩
  | 94 => ⟨S32x32x4x128, .f32⟩
  | 95 => ⟨S_, .f32⟩
  | 96 => ⟨S32x32x4x128x128, .f32⟩
  | 97 => ⟨S_, .i32⟩
  | 98 => ⟨S32x32x4x128x128, .f32⟩
  | 99 => ⟨S32x32x4x128, .f32⟩
  | 100 => ⟨S_, .i32⟩
  | 101 => ⟨S32x4x128x128, .f32⟩
  | 102 => ⟨S32x32x4x128x128, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x32x4x128x128, .f32⟩
  | 110 => ⟨S32x4x128x128, .f32⟩
  | 111 => ⟨S_, .i32⟩
  | 112 => ⟨S_, .i32⟩
  | 113 => ⟨S_, .i32⟩
  | 114 => ⟨S1x32x4x128, .f32⟩
  | 115 => ⟨S32x4x128, .f32⟩
  | 116 => ⟨S32x4x128x1, .f32⟩
  | 117 => ⟨S32x4x128x128, .f32⟩
  | 118 => ⟨S32x4x128x128, .f32⟩
  | 119 => ⟨S32x4x128x128, .f32⟩
  | 120 => ⟨S1x32x4x128x128, .f32⟩
  | 121 => ⟨S_, .i32⟩
  | 122 => ⟨S_, .i32⟩
  | 123 => ⟨S_, .i32⟩
  | 124 => ⟨S_, .i32⟩
  | 125 => ⟨S32x32x4x128x128, .f32⟩
  | 126 => ⟨S_, .i32⟩
  | 127 => ⟨S_, .i32⟩
  | _ => ⟨S65536x5376, .f32⟩

abbrev hbmTy0_1 (i : Nat) : BufTy := match i % 128 with
  | 0 => ⟨S32x4x32x128x128, .f32⟩
  | 1 => ⟨S32x4x32x64x128, .f32⟩
  | 2 => ⟨S32x4x32x64x128, .f32⟩
  | 3 => ⟨S32x4x32x64x128, .f32⟩
  | 4 => ⟨S32x4x32x64x128, .f32⟩
  | 5 => ⟨S32x32x64x4x128, .f32⟩
  | 6 => ⟨S32x2048x4x128, .f32⟩
  | 7 => ⟨S32x2048x4x128, .f32⟩
  | 8 => ⟨S_, .f32⟩
  | 9 => ⟨S32x2048x4, .f32⟩
  | 10 => ⟨S32x2048x4x1, .f32⟩
  | 11 => ⟨S_, .f32⟩
  | 12 => ⟨S32x2048x4x1, .f32⟩
  | 13 => ⟨S32x2048x4x1, .f32⟩
  | 14 => ⟨S_, .f32⟩
  | 15 => ⟨S32x2048x4x1, .f32⟩
  | 16 => ⟨S32x2048x4x1, .f32⟩
  | 17 => ⟨S32x2048x4x1, .f32⟩
  | 18 => ⟨S32x2048x4x128, .f32⟩
  | 19 => ⟨S32x2048x4x128, .f32⟩
  | 20 => ⟨S128, .f32⟩
  | 21 => ⟨S1x1x1x128, .f32⟩
  | 22 => ⟨S32x2048x4x128, .f32⟩
  | 23 => ⟨S32x2048x4x128, .f32⟩
  | 24 => ⟨S32x2048x4x128, .f32⟩
  | 25 => ⟨S32x2048x4x128, .f32⟩
  | 26 => ⟨S32x2048x4x128, .f32⟩
  | 27 => ⟨S_, .f32⟩
  | 28 => ⟨S32x2048x4x128, .f32⟩
  | 29 => ⟨S32x2048x4x128, .f32⟩
  | 30 => ⟨S_, .f32⟩
  | 31 => ⟨S32x2048x4x128, .f32⟩
  | 32 => ⟨S32x2048x4x128, .f32⟩
  | 33 => ⟨S32x2048x4x128, .f32⟩
  | 34 => ⟨S65536x512, .f32⟩
  | _ => ⟨S65536x5376, .f32⟩

abbrev hbmTy (i : Nat) : BufTy := match i / 128 with
  | 0 => hbmTy0_0 i
  | 1 => hbmTy0_1 i
  | _ => ⟨S65536x5376, .f32⟩

abbrev bufTy : (tb : Table) → Fin (tcTables nBuf tb) → BufTy
  | .hbm, ⟨i, _⟩ => hbmTy i
  | _, _ => ⟨S65536x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_call0_call0_cst : Ref sig .tc := ⟨.hbm, 53, rfl⟩
abbrev main_call0_call0_v0 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c : Ref sig .tc := ⟨.hbm, 65, rfl⟩
abbrev main_v54 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_c_0 : Ref sig .tc := ⟨.hbm, 73, rfl⟩
abbrev main_call1_v5 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_6 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_7 : Ref sig .tc := ⟨.hbm, 95, rfl⟩
abbrev main_v70 : Ref sig .tc := ⟨.hbm, 96, rfl⟩
abbrev main_c_8 : Ref sig .tc := ⟨.hbm, 97, rfl⟩
abbrev main_v71_0 : Ref sig .tc := ⟨.hbm, 98, rfl⟩
abbrev main_v71_1 : Ref sig .tc := ⟨.hbm, 99, rfl⟩
abbrev main_v71_2 : Ref sig .tc := ⟨.hbm, 100, rfl⟩
abbrev main_v71_3 : Ref sig .tc := ⟨.hbm, 101, rfl⟩
abbrev main_v71_4 : Ref sig .tc := ⟨.hbm, 102, rfl⟩
abbrev main_while0c_c_18 : Ref sig .tc := ⟨.hbm, 103, rfl⟩
abbrev main_while0c_v102 : Ref sig .tc := ⟨.hbm, 104, rfl⟩
abbrev main_while0b_call3_c : Ref sig .tc := ⟨.hbm, 105, rfl⟩
abbrev main_while0b_call3_c_0 : Ref sig .tc := ⟨.hbm, 106, rfl⟩
abbrev main_while0b_call3_c_1 : Ref sig .tc := ⟨.hbm, 107, rfl⟩
abbrev main_while0b_call3_c_2 : Ref sig .tc := ⟨.hbm, 108, rfl⟩
abbrev main_while0b_call3_v0 : Ref sig .tc := ⟨.hbm, 109, rfl⟩
abbrev main_while0b_v102 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_c_1 : Ref sig .tc := ⟨.hbm, 113, rfl⟩
abbrev main_while0b_call4_v0 : Ref sig .tc := ⟨.hbm, 114, rfl⟩
abbrev main_while0b_v103 : Ref sig .tc := ⟨.hbm, 115, rfl⟩
abbrev main_while0b_v104 : Ref sig .tc := ⟨.hbm, 116, rfl⟩
abbrev main_while0b_v105 : Ref sig .tc := ⟨.hbm, 117, rfl⟩
abbrev main_while0b_v106 : Ref sig .tc := ⟨.hbm, 118, rfl⟩
abbrev main_while0b_v107 : Ref sig .tc := ⟨.hbm, 119, rfl⟩
abbrev main_while0b_call5_v0 : Ref sig .tc := ⟨.hbm, 120, rfl⟩
abbrev main_while0b_call5_c : Ref sig .tc := ⟨.hbm, 121, rfl⟩
abbrev main_while0b_call5_c_0 : Ref sig .tc := ⟨.hbm, 122, rfl⟩
abbrev main_while0b_call5_c_1 : Ref sig .tc := ⟨.hbm, 123, rfl⟩
abbrev main_while0b_call5_c_2 : Ref sig .tc := ⟨.hbm, 124, rfl⟩
abbrev main_while0b_v108 : Ref sig .tc := ⟨.hbm, 125, rfl⟩
abbrev main_while0b_c_18 : Ref sig .tc := ⟨.hbm, 126, rfl⟩
abbrev main_while0b_v109 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_cst_9 : Ref sig .tc := ⟨.hbm, 136, rfl⟩
abbrev main_v80 : Ref sig .tc := ⟨.hbm, 137, rfl⟩
abbrev main_v81 : Ref sig .tc := ⟨.hbm, 138, rfl⟩
abbrev main_cst_10 : Ref sig .tc := ⟨.hbm, 139, rfl⟩
abbrev main_v82 : Ref sig .tc := ⟨.hbm, 140, rfl⟩
abbrev main_v83 : Ref sig .tc := ⟨.hbm, 141, rfl⟩
abbrev main_cst_11 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_12 : Ref sig .tc := ⟨.hbm, 155, rfl⟩
abbrev main_v96 : Ref sig .tc := ⟨.hbm, 156, rfl⟩
abbrev main_v97 : Ref sig .tc := ⟨.hbm, 157, rfl⟩
abbrev main_cst_13 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S65536x1024 : Shape := ⟨2, ![65536, 1024]⟩
abbrev S1024x5320 : Shape := ⟨2, ![1024, 5320]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x1024 : Shape := ⟨2, ![1024, 1024]⟩
abbrev S_ : Shape := ⟨0, ![]⟩
abbrev S1024x56 : Shape := ⟨2, ![1024, 56]⟩
abbrev S1024x5376 : Shape := ⟨2, ![1024, 5376]⟩
abbrev S65536x5376 : Shape := ⟨2, ![65536, 5376]⟩
abbrev S256x1024 : Shape := ⟨2, ![256, 1024]⟩
abbrev S256x5376 : Shape := ⟨2, ![256, 5376]⟩

abbrev nBuf : Space → Nat
  | .hbm => 18
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x5320, .f32⟩
  | .hbm, ⟨2, _⟩ => ⟨S1024x512, .f32⟩
  | .hbm, ⟨3, _⟩ => ⟨S1024x128, .f32⟩
  | .hbm, ⟨4, _⟩ => ⟨S1024x512, .f32⟩
  | .hbm, ⟨5, _⟩ => ⟨S1024x64, .f32⟩
  | .hbm, ⟨6, _⟩ => ⟨S1024x8, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x56, .f32⟩
  | .hbm, ⟨15, _⟩ => ⟨S1024x5376, .f32⟩
  | .hbm, ⟨16, _⟩ => ⟨S1024x5376, .bf16⟩
  | .hbm, ⟨17, _⟩ => ⟨S65536x5376, .f32⟩
  | .local _ .vmem, ⟨0, _⟩ => ⟨S256x1024, .f32⟩
  | .local _ .vmem, ⟨1, _⟩ => ⟨S256x1024, .f32⟩
  | .local _ .vmem, ⟨2, _⟩ => ⟨S1024x5376, .bf16⟩
  | .local _ .vmem, ⟨3, _⟩ => ⟨S256x5376, .f32⟩
  | .local _ .vmem, ⟨4, _⟩ => ⟨S256x5376, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5376 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S65536x1024 : Shape := ⟨2, ![65536, 1024]⟩
abbrev S1024x5320 : Shape := ⟨2, ![1024, 5320]⟩
abbrev S65536x5320 : Shape := ⟨2, ![65536, 5320]⟩
abbrev S65536x512 : Shape := ⟨2, ![65536, 512]⟩
abbrev S65536x128 : Shape := ⟨2, ![65536, 128]⟩
abbrev S65536x64 : Shape := ⟨2, ![65536, 64]⟩
abbrev S65536x8 : Shape := ⟨2, ![65536, 8]⟩
abbrev S_ : Shape := ⟨0, ![]⟩
abbrev S65536x56 : Shape := ⟨2, ![65536, 56]⟩
abbrev S65536x5376 : Shape := ⟨2, ![65536, 5376]⟩

abbrev nBuf : Space → Nat
  | .hbm => 17
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x5320, .f32⟩
  | .hbm, ⟨2, _⟩ => ⟨S65536x5320, .f32⟩
  | .hbm, ⟨3, _⟩ => ⟨S65536x512, .f32⟩
  | .hbm, ⟨4, _⟩ => ⟨S65536x128, .f32⟩
  | .hbm, ⟨5, _⟩ => ⟨S65536x512, .f32⟩
  | .hbm, ⟨6, _⟩ => ⟨S65536x64, .f32⟩
  | .hbm, ⟨7, _⟩ => ⟨S65536x8, .f32⟩
  | .hbm, ⟨8, _⟩ => ⟨S65536x512, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536x56, .f32⟩
  | .hbm, ⟨16, _⟩ => ⟨S65536x5376, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S65536x512 : Shape := ⟨2, ![65536, 512]⟩
abbrev S65536x5376 : Shape := ⟨2, ![65536, 5376]⟩
abbrev S65536x1024 : Shape := ⟨2, ![65536, 1024]⟩
abbrev S512x1024 : Shape := ⟨2, ![512, 1024]⟩
abbrev S1024x1024 : Shape := ⟨2, ![1024, 1024]⟩
abbrev S1x1024 : Shape := ⟨2, ![1, 1024]⟩
abbrev S65536x8x128 : Shape := ⟨3, ![65536, 8, 128]⟩
abbrev S256x512 : Shape := ⟨2, ![256, 512]⟩
abbrev S256x1024 : Shape := ⟨2, ![256, 1024]⟩
abbrev S256x8x128 : Shape := ⟨3, ![256, 8, 128]⟩
abbrev S256 : Shape := ⟨1, ![256]⟩
abbrev S256x1 : Shape := ⟨2, ![256, 1]⟩
abbrev S256x128 : Shape := ⟨2, ![256, 128]⟩
abbrev S256x1x128 : Shape := ⟨3, ![256, 1, 128]⟩

abbrev nBuf : Space → Nat
  | .hbm => 14
  | .vmem => 19
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x5376, .f32⟩
  | .hbm, ⟨3, _⟩ => ⟨S65536x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S512x1024, .bf16⟩
  | .hbm, ⟨10, _⟩ => ⟨S512x1024, .bf16⟩
  | .hbm, ⟨11, _⟩ => ⟨S1024x1024, .bf16⟩
  | .hbm, ⟨12, _⟩ => ⟨S65536x1024, .f32⟩
  | .hbm, ⟨13, _⟩ => ⟨S65536x8x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x8x128, .f32⟩
  | .local _ .vmem, ⟨18, _⟩ => ⟨S256x8x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel3Ideal.lean ====
variable {F : FTy → Type} [FloatOps F] [Named F]
def κ : String → Option EReal := fun
  | "alpha" => some ((Real.sqrt (Real.sqrt 2) : ℝ) : EReal)
  | _ => none
-- ==== Reference3Ideal.lean ====
abbrev S65536x512 : Shape := ⟨2, ![65536, 512]⟩
abbrev S65536x5376 : Shape := ⟨2, ![65536, 5376]⟩
abbrev S65536x1024 : Shape := ⟨2, ![65536, 1024]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S65536x8x128 : Shape := ⟨3, ![65536, 8, 128]⟩

abbrev nBuf : Space → Nat
  | .hbm => 71
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S65536x5376, .f32⟩
  | .hbm, ⟨3, _⟩ => ⟨S65536x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S_, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S_, .f32⟩
  | .hbm, ⟨40, _⟩ => ⟨S65536, .f32⟩
  | .hbm, ⟨41, _⟩ => ⟨S65536x1, .f32⟩
  | .hbm, ⟨42, _⟩ => ⟨S_, .f32⟩
  | .hbm, ⟨43, _⟩ => ⟨S65536x1, .f32⟩
  | .hbm, ⟨44, _⟩ => ⟨S65536x1, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S_, .f32⟩
  | .hbm, ⟨52, _⟩ => ⟨S65536x1, .f32⟩
  | .hbm, ⟨53, _⟩ => ⟨S65536x1, .f32⟩
  | .hbm, ⟨54, _⟩ => ⟨S65536x1024, .f32⟩
  | .hbm, ⟨55, _⟩ => ⟨S65536x1024, .f32⟩
  | .hbm, ⟨56, _⟩ => ⟨S_, .f32⟩
  | .hbm, ⟨57, _⟩ => ⟨S65536x1, .f32⟩
  | .hbm, ⟨58, _⟩ => ⟨S65536x1, .f32⟩
  | .hbm, ⟨59, _⟩ => ⟨S65536x1, .f32⟩
  | .hbm, ⟨60, _⟩ => ⟨S65536x1024, .f32⟩
  | .hbm, ⟨61, _⟩ => ⟨S65536x1024, .f32⟩
  | .hbm, ⟨62, _⟩ => ⟨S1024, .f32⟩
  | .hbm, ⟨63, _⟩ => ⟨S1x1024, .f32⟩
  | .hbm, ⟨64, _⟩ => ⟨S65536x1024, .f32⟩
  | .hbm, ⟨65, _⟩ => ⟨S65536x1024, .f32⟩
  | .hbm, ⟨66, _⟩ => ⟨S1024, .f32⟩
  | .hbm, ⟨67, _⟩ => ⟨S1x1024, .f32⟩
  | .hbm, ⟨68, _⟩ => ⟨S65536x1024, .f32⟩
  | .hbm, ⟨69, _⟩ => ⟨S65536x1024, .f32⟩
  | .hbm, ⟨70, _⟩ => ⟨S65536x8x128, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel4.lean ====
abbrev S65536x1024 : Shape := ⟨2, ![65536, 1024]⟩
abbrev S1024x2048 : Shape := ⟨2, ![1024, 2048]⟩
abbrev S128x128 : Shape := ⟨2, ![128, 128]⟩
abbrev S65536x128 : Shape := ⟨2, ![65536, 128]⟩
abbrev S256x1024 : Shape := ⟨2, ![256, 1024]⟩
abbrev S256x128 : Shape := ⟨2, ![256, 128]⟩
abbrev S16x256 : Shape := ⟨2, ![16, 256]⟩
abbrev S128x256 : Shape := ⟨2, ![128, 256]⟩
abbrev S256x2048 : Shape := ⟨2, ![256, 2048]⟩
abbrev S8x256 : Shape := ⟨2, ![8, 256]⟩
abbrev S80x256 : Shape := ⟨2, ![80, 256]⟩
abbrev S256 : Shape := ⟨1, ![256]⟩
abbrev S1x256 : Shape := ⟨2, ![1, 256]⟩

abbrev nBuf : Space → Nat
  | .hbm => 9
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024x2048, .f32⟩
  | .hbm, ⟨2, _⟩ => ⟨S128x128, .f32⟩
  | .hbm, ⟨3, _⟩ => ⟨S128x128, .f32⟩
  | .hbm, ⟨4, _⟩ => ⟨S1024x2048, .bf16⟩
  | .hbm, ⟨5, _⟩ => ⟨S128x128, .bf16⟩
  | .hbm, ⟨6, _⟩ => ⟨S128x128, .bf16⟩
  | .hbm, ⟨7, _⟩ => ⟨S65536x128, .i32⟩
  | .hbm, ⟨8, _⟩ => ⟨S65536x128, .f32⟩
  | .local _ .vmem, ⟨0, _⟩ => ⟨S256x1024, .f32⟩
  | .local _ .vmem, ⟨1, _⟩ => ⟨S256x1024, .f32⟩
  | .local _ .vmem, ⟨2, _⟩ => ⟨S1024x2048, .bf16⟩
  | .local _ .vmem, ⟨3, _⟩ => ⟨S128x128, .bf16⟩
  | .local _ .vmem, ⟨4, _⟩ => ⟨S128x128, .bf16⟩
  | .local _ .vmem, ⟨5, _⟩ => ⟨S256x128, .i32⟩
  | .local _ .vmem, ⟨6, _⟩ => ⟨S256x128, .i32⟩
  | .local _ .vmem, ⟨7, _⟩ => ⟨S256x128, .f32⟩
  | .local _ .vmem, ⟨8, _⟩ => ⟨S256x128, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x256, .f32⟩
  | .local _ .vmem, ⟨15, _⟩ => ⟨S128x256, .i32⟩
  | .local _ .vmem, ⟨16, _⟩ => ⟨S128x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Proof.HgrnModel.lean ====
module

public import proofs.«01_k».proof.Proof.Gen.KernelIdeal.Value
public import Idealize.ShloMosaic.Lib.Pointwise
public import Idealize.ShloMosaic.Lib.Pipeline.ValueKit.Acc
public import Idealize.ShloMosaic.Lib.Pipeline.ValueKit.Basic
public import Idealize.ShloMosaic.Lib.Pipeline.ReadBack

/-! # The stages of one chunk of the kernel

The kernel's body treats four chunks of 64 rows, and in each chunk four heads of 128 columns. Here the stages of a chunk
are named once, for any chunk and any head, and the blocks that the body stores are shown to be these stages. -/

@[expose] public section

set_option maxRecDepth 16384

noncomputable section

namespace Cert.KernelIdeal.Hgrn

open Idealize.ShloMosaic Idealize.ShloMosaic.TcCoe
open Cert.KernelIdeal Cert.KernelIdeal.Gen

variable {F : FTy → Type} [FloatOps F]

/-- The causal mask: row at least column. -/
def mask : IVec S64x64 1 := cmpi .sge (iota .tc S64x64 32 [0] iota_S64x64_d0_w32) (iota .tc S64x64 32 [1] iota_S64x64_d1_w32)

/-- One minus the lower bound. -/
def oneSub (lb : Vec F S1x512 .f32) : FVec F S1x512 .f32 := subf (broadcast S1x512 (Scalar.ofBits .f32 0x3F800000#32)) lb

/-- The key gate of a chunk. -/
def kk (lb : Vec F S1x512 .f32) (z : Vec F S64x512 .f32) : FVec F S64x512 .f32 :=
  mulf (broadcastTo S64x512 (oneSub lb) broadcasts_S1x512_S64x512)
    (logistic (subf (broadcast S64x512 (Scalar.ofBits .f32 0x00000000#32)) z))

/-- The running sum of the log gates of a chunk. -/
def bc (lb : Vec F S1x512 .f32) (z : Vec F S64x512 .f32) : FVec F S64x512 .f32 :=
  matmul dot_S64x64_S64x512_S64x512_1_0_0_1_n_n (some .fp32) (sitofp .f32 (extui 32 mask natLt_1_32))
    (log (addf (broadcastTo S64x512 lb broadcasts_S1x512_S64x512)
      (mulf (broadcastTo S64x512 (oneSub lb) broadcasts_S1x512_S64x512) (logistic z))))
    (constant S64x512 .f32 0x00000000#32)

/-- The running sum at the chunk's middle row. -/
def mid (b : FVec F S64x512 .f32) : FVec F S1x512 .f32 := extractStridedSlice S1x512 ![31, 0] b slices_S64x512_o31_0_S1x512
/-- The running sum at the chunk's last row. -/
def last (b : FVec F S64x512 .f32) : FVec F S1x512 .f32 := extractStridedSlice S1x512 ![63, 0] b slices_S64x512_o63_0_S1x512

/-- The queries of a chunk, weighed from its middle row. -/
def qin (b : FVec F S64x512 .f32) (q : Vec F S64x512 .f32) : FVec F S64x512 .bf16 :=
  truncf .bf16 (mulf q (exp (subf b (broadcastTo S64x512 (mid b) broadcasts_S1x512_S64x512)))) bitsLt_bf16_f32
/-- The keys of a chunk, weighed to its middle row. -/
def kin (b k : FVec F S64x512 .f32) : FVec F S64x512 .bf16 :=
  truncf .bf16 (mulf k (exp (subf (broadcastTo S64x512 (mid b) broadcasts_S1x512_S64x512) b))) bitsLt_bf16_f32
/-- The keys of a chunk, weighed to its last row. -/
def kdec (b k : FVec F S64x512 .f32) : FVec F S64x512 .f32 :=
  mulf k (exp (subf (broadcastTo S64x512 (last b) broadcasts_S1x512_S64x512) b))
/-- The queries of a chunk, weighed from its start. -/
def qdec (b : FVec F S64x512 .f32) (q : Vec F S64x512 .f32) : FVec F S64x512 .bf16 :=
  truncf .bf16 (mulf q (exp b)) bitsLt_bf16_f32

/-- One head's output before the normalisation: what the chunk's earlier rows give and what the state gives. -/
def headO (o : Nat) (hs : S64x512.Slices ![0, o] S64x128) (qi ki qd : FVec F S64x512 .bf16) (v : Vec F S64x512 .f32)
    (st : Vec F S1x128x128 .f32) : FVec F S64x128 .f32 :=
  addf
    (matmul dot_S64x64_S64x128_S64x128_1_0_0_1_n_n none
      (truncf .bf16 (select mask
        (matmul dot_S64x128_S64x128_S64x64_1_1_0_0_n_n none (extractStridedSlice S64x128 ![0, o] qi hs)
          (extractStridedSlice S64x128 ![0, o] ki hs) (constant S64x64 .f32 0x00000000#32))
        (broadcast S64x64 (Scalar.ofBits .f32 0x00000000#32))) bitsLt_bf16_f32)
      (truncf .bf16 (extractStridedSlice S64x128 ![0, o] v hs) bitsLt_bf16_f32) (constant S64x128 .f32 0x00000000#32))
    (matmul dot_S64x128_S128x128_S64x128_1_1_0_0_n_n none (extractStridedSlice S64x128 ![0, o] qd hs)
      (truncf .bf16 (shapeCast S128x128 st shapeCasts_S1x128x128_S128x128) bitsLt_bf16_f32)
      (constant S64x128 .f32 0x00000000#32))

/-- One head's state after the chunk. -/
def headS (o : Nat) (hs : S64x512.Slices ![0, o] S64x128) (hs1 : S1x512.Slices ![0, o] S1x128) (kd : FVec F S64x512 .f32)
    (dec : FVec F S1x512 .f32) (v : Vec F S64x512 .f32) (st : Vec F S1x128x128 .f32) : FVec F S1x128x128 .f32 :=
  shapeCast S1x128x128
    (addf
      (mulf (broadcastTo S128x128 (extractStridedSlice S1x128 ![0, o] dec hs1) broadcasts_S1x128_S128x128)
        (shapeCast S128x128 st shapeCasts_S1x128x128_S128x128))
      (matmul dot_S128x64_S64x128_S128x128_1_0_0_1_n_n none
        (truncf .bf16 (transpose S128x64 [1, 0] (extractStridedSlice S64x128 ![0, o] v hs) transposes_S64x128_p1_0_S128x64)
          bitsLt_bf16_f32)
        (truncf .bf16 (extractStridedSlice S64x128 ![0, o] kd hs) bitsLt_bf16_f32) (constant S128x128 .f32 0x00000000#32)))
    shapeCasts_S128x128_S1x128x128

/-- One head's normalised and gated output. -/
def gated (o : Nat) (hs : S64x512.Slices ![0, o] S64x128) (ng : Vec F S1x128 .f32) (g : Vec F S64x512 .f32)
    (x : FVec F S64x128 .f32) : FVec F S64x128 .f32 :=
  mulf
    (mulf
      (mulf
        (mulf x (broadcastTo S64x128
          (rsqrt (addf
            (divf (shapeCast S64x1 (multiReduction .add [1] S64 (mulf x x) 0x00000000#32 reduces_S64x128_S64 (.inl rfl) rfl)
              shapeCasts_S64_S64x1) (broadcast S64x1 (Scalar.ofBits .f32 0x43000000#32)))
            (broadcast S64x1 (Scalar.ofBits .f32 0x358637BD#32)))) broadcasts_S64x1_S64x128))
        (broadcastTo S64x128 ng broadcasts_S1x128_S64x128))
      (extractStridedSlice S64x128 ![0, o] g hs))
    (logistic (extractStridedSlice S64x128 ![0, o] g hs))

/-- One head's state after a chunk, from the chunk's rows. -/
def stepH (o : Nat) (hs : S64x512.Slices ![0, o] S64x128) (hs1 : S1x512.Slices ![0, o] S1x128) (lb : Vec F S1x512 .f32)
    (z v : Vec F S64x512 .f32) (st : Vec F S1x128x128 .f32) : FVec F S1x128x128 .f32 :=
  headS o hs hs1 (kdec (bc lb z) (kk lb z)) (exp (last (bc lb z))) v st

/-- One head's rows of the result, from the chunk's rows and the state before the chunk. -/
def rowsH (o : Nat) (hs : S64x512.Slices ![0, o] S64x128) (lb : Vec F S1x512 .f32) (ng : Vec F S1x128 .f32)
    (q z v g : Vec F S64x512 .f32) (st : Vec F S1x128x128 .f32) : FVec F S64x128 .f32 :=
  gated o hs ng g (headO o hs (qin (bc lb z) q) (kin (bc lb z) (kk lb z)) (qdec (bc lb z) q) v st)

/-- The chunk's rows of the result. -/
def rows (lb : Vec F S1x512 .f32) (ng : Vec F S1x128 .f32) (q z v g : Vec F S64x512 .f32)
    (s0 s1 s2 s3 : Vec F S1x128x128 .f32) : FVec F S64x512 .f32 :=
  concatenate S64x512 1
    [⟨S64x128, rowsH 0 slices_S64x512_o0_0_S64x128 lb ng q z v g s0⟩,
     ⟨S64x128, rowsH 128 slices_S64x512_o0_128_S64x128 lb ng q z v g s1⟩,
     ⟨S64x128, rowsH 256 slices_S64x512_o0_256_S64x128 lb ng q z v g s2⟩,
     ⟨S64x128, rowsH 384 slices_S64x512_o0_384_S64x128 lb ng q z v g s3⟩]
    concatenates_S64x128_S64x128_S64x128_S64x128_S64x512_d1

/-- The rows of a block's chunk `n`. -/
def ch0 (x : Vec F S256x512 .f32) : Vec F S64x512 .f32 := View.ld x (Rect.unit (s := S256x512) ![0, 0] S64x512.size inb_S256x512_S64x512_0_0)
def ch1 (x : Vec F S256x512 .f32) : Vec F S64x512 .f32 := View.ld x (Rect.unit (s := S256x512) ![64, 0] S64x512.size inb_S256x512_S64x512_64_0)
def ch2 (x : Vec F S256x512 .f32) : Vec F S64x512 .f32 := View.ld x (Rect.unit (s := S256x512) ![128, 0] S64x512.size inb_S256x512_S64x512_128_0)
def ch3 (x : Vec F S256x512 .f32) : Vec F S64x512 .f32 := View.ld x (Rect.unit (s := S256x512) ![192, 0] S64x512.size inb_S256x512_S64x512_192_0)

section heads
variable (o : Nat) (hs : S64x512.Slices ![0, o] S64x128) (hs1 : S1x512.Slices ![0, o] S1x128) (lb : Vec F S1x512 .f32)
  (z v : Vec F S256x512 .f32) (st : Vec F S1x128x128 .f32)
/-- One head's state after the block's first chunk, its first two, three and four. -/
def st1 : Vec F S1x128x128 .f32 := stepH o hs hs1 lb (ch0 z) (ch0 v) st
def st2 : Vec F S1x128x128 .f32 := stepH o hs hs1 lb (ch1 z) (ch1 v) (st1 o hs hs1 lb z v st)
def st3 : Vec F S1x128x128 .f32 := stepH o hs hs1 lb (ch2 z) (ch2 v) (st2 o hs hs1 lb z v st)
def st4 : Vec F S1x128x128 .f32 := stepH o hs hs1 lb (ch3 z) (ch3 v) (st3 o hs hs1 lb z v st)
end heads

/-- The state's four heads. -/
def hd0 (s : Vec F S4x128x128 .f32) : Vec F S1x128x128 .f32 := View.ld s (Rect.unit (s := S4x128x128) ![0, 0, 0] S1x128x128.size inb_S4x128x128_S1x128x128_0_0_0)
def hd1 (s : Vec F S4x128x128 .f32) : Vec F S1x128x128 .f32 := View.ld s (Rect.unit (s := S4x128x128) ![1, 0, 0] S1x128x128.size inb_S4x128x128_S1x128x128_1_0_0)
def hd2 (s : Vec F S4x128x128 .f32) : Vec F S1x128x128 .f32 := View.ld s (Rect.unit (s := S4x128x128) ![2, 0, 0] S1x128x128.size inb_S4x128x128_S1x128x128_2_0_0)
def hd3 (s : Vec F S4x128x128 .f32) : Vec F S1x128x128 .f32 := View.ld s (Rect.unit (s := S4x128x128) ![3, 0, 0] S1x128x128.size inb_S4x128x128_S1x128x128_3_0_0)

end Cert.KernelIdeal.Hgrn

end
-- ==== Proof.HgrnBody.lean ====
module

public import proofs.«01_k».proof.Proof.HgrnModel

/-! # What the body leaves at a grid point, in the stages of its chunks

At a batch's first point the state starts from zero, at every other point from what the point before left. -/

@[expose] public section
set_option maxRecDepth 16384
noncomputable section
namespace Cert.KernelIdeal.Hgrn
open Idealize.ShloMosaic Idealize.ShloMosaic.TcCoe
open Cert.KernelIdeal Cert.KernelIdeal.Gen
variable {F : FTy → Type} [FloatOps F]

/-- The zero state. -/
def zeroSt : Vec F S4x128x128 .f32 :=
  shapeCast S4x128x128 (broadcast S4x128x128 (Scalar.ofBits .f32 0x00000000#32)) shapeCasts_S4x128x128_S4x128x128

/-- What a point that starts a batch leaves of the state, chunk by chunk, the last stored first. -/
theorem sout_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S4x128x128 .f32) (harg9 : arg9.IsWhole) (hc0 : cond0_0 i)
    (x0 : Vec F S256x512 .f32) (x1 : Vec F S256x512 .f32) (x2 : Vec F S256x512 .f32) (x3 : Vec F S256x512 .f32) (x4 : Vec F S1x512 .f32) (x5 : Vec F S1x128 .f32) :
    sout0_A_0 c i arg2 harg2 arg3 harg3 arg4 harg4 arg5 harg5 arg6 harg6 arg7 harg7 arg8 harg8 arg9 harg9 hc0 x0 x1 x2 x3 x4 x5 = View.canon (
      [⟨Rect.unit ![3, 0, 0] ![1, 128, 128] inb_S4x128x128_S1x128x128_3_0_0, st4 384 slices_S64x512_o0_384_S64x128 slices_S1x512_o0_384_S1x128 x4 x1 x2 (hd3 zeroSt)⟩,
       ⟨Rect.unit ![2, 0, 0] ![1, 128, 128] inb_S4x128x128_S1x128x128_2_0_0, st4 256 slices_S64x512_o0_256_S64x128 slices_S1x512_o0_256_S1x128 x4 x1 x2 (hd2 zeroSt)⟩,
       ⟨Rect.unit ![1, 0, 0] ![1, 128, 128] inb_S4x128x128_S1x128x128_1_0_0, st4 128 slices_S64x512_o0_128_S64x128 slices_S1x512_o0_128_S1x128 x4 x1 x2 (hd1 zeroSt)⟩,
       ⟨Rect.unit ![0, 0, 0] ![1, 128, 128] inb_S4x128x128_S1x128x128_0_0_0, st4 0 slices_S64x512_o0_0_S64x128 slices_S1x512_o0_0_S1x128 x4 x1 x2 (hd0 zeroSt)⟩,
       ⟨Rect.unit ![3, 0, 0] ![1, 128, 128] inb_S4x128x128_S1x128x128_3_0_0, st3 384 slices_S64x512_o0_384_S64x128 slices_S1x512_o0_384_S1x128 x4 x1 x2 (hd3 zeroSt)⟩,
       ⟨Rect.unit ![2, 0, 0] ![1, 128, 128] inb_S4x128x128_S1x128x128_2_0_0, st3 256 slices_S64x512_o0_256_S64x128 slices_S1x512_o0_256_S1x128 x4 x1 x2 (hd2 zeroSt)⟩,
       ⟨Rect.unit ![1, 0, 0] ![1, 128, 128] inb_S4x128x128_S1x128x128_1_0_0, st3 128 slices_S64x512_o0_128_S64x128 slices_S1x512_o0_128_S1x128 x4 x1 x2 (hd1 zeroSt)⟩,
       ⟨Rect.unit ![0, 0, 0] ![1, 128, 128] inb_S4x128x128_S1x128x128_0_0_0, st3 0 slices_S64x512_o0_0_S64x128 slices_S1x512_o0_0_S1x128 x4 x1 x2 (hd0 zeroSt)⟩,
       ⟨Rect.unit ![3, 0, 0] ![1, 128, 128] inb_S4x128x128_S1x128x128_3_0_0, st2 384 slices_S64x512_o0_384_S64x128 slices_S1x512_o0_384_S1x128 x4 x1 x2 (hd3 zeroSt)⟩,
       ⟨Rect.unit ![2, 0, 0] ![1, 128, 128] inb_S4x128x128_S1x128x128_2_0_0, st2 256 slices_S64x512_o0_256_S64x128 slices_S1x512_o0_256_S1x128 x4 x1 x2 (hd2 zeroSt)⟩,
       ⟨Rect.unit ![1, 0, 0] ![1, 128, 128] inb_S4x128x128_S1x128x128_1_0_0, st2 128 slices_S64x512_o0_128_S64x128 slices_S1x512_o0_128_S1x128 x4 x1 x2 (hd1 zeroSt)⟩,
       ⟨Rect.unit ![0, 0, 0] ![1, 128, 128] inb_S4x128x128_S1x128x128_0_0_0, st2 0 slices_S64x512_o0_0_S64x128 slices_S1x512_o0_0_S1x128 x4 x1 x2 (hd0 zeroSt)⟩,
       ⟨Rect.unit ![3, 0, 0] ![1, 128, 128] inb_S4x128x128_S1x128x128_3_0_0, st1 384 slices_S64x512_o0_384_S64x128 slices_S1x512_o0_384_S1x128 x4 x1 x2 (hd3 zeroSt)⟩,
       ⟨Rect.unit ![2, 0, 0] ![1, 128, 128] inb_S4x128x128_S1x128x128_2_0_0, st1 256 slices_S64x512_o0_256_S64x128 slices_S1x512_o0_256_S1x128 x4 x1 x2 (hd2 zeroSt)⟩,
       ⟨Rect.unit ![1, 0, 0] ![1, 128, 128] inb_S4x128x128_S1x128x128_1_0_0, st1 128 slices_S64x512_o0_128_S64x128 slices_S1x512_o0_128_S1x128 x4 x1 x2 (hd1 zeroSt)⟩,
       ⟨Rect.unit ![0, 0, 0] ![1, 128, 128] inb_S4x128x128_S1x128x128_0_0_0, st1 0 slices_S64x512_o0_0_S64x128 slices_S1x512_o0_0_S1x128 x4 x1 x2 (hd0 zeroSt)⟩,
       ⟨Rect.unit ![0, 0, 0] S4x128x128.size inb_S4x128x128_S4x128x128_0_0_0, zeroSt⟩] : List (View.Piece (Elt F) S4x128x128 .f32)) := by
  unfold sout0_A_0
  rw [View.read_writes_junk_eq_canon]
  unfold kernelRun0_A
  dsimp only
  sl_unfold_words
  simp (disch := decide) only [↓View.readCov_skip, View.readCov_cons_toLoadRect, View.readCov_fill, View.readAt_eq_ld, View.ld_unit_lit, harg2.read_unread, harg3.read_unread, harg4.read_unread, harg5.read_unread, harg6.read_unread, harg7.read_unread]
  unfold_payloads
  simp only [st4, st3, st2, st1, hd0, hd1, hd2, hd3, stepH, headS, kdec, kk, bc, last, oneSub, mask, ch0, ch1, ch2, ch3, zeroSt]

/-- What a point that starts a batch leaves of the rows of the result, chunk by chunk, the last stored first. -/
theorem out_A (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S4x128x128 .f32) (harg9 : arg9.IsWhole) (hc0 : cond0_0 i)
    (x0 : Vec F S256x512 .f32) (x1 : Vec F S256x512 .f32) (x2 : Vec F S256x512 .f32) (x3 : Vec F S256x512 .f32) (x4 : Vec F S1x512 .f32) (x5 : Vec F S1x128 .f32) :
    out0_A_6 c i arg2 harg2 arg3 harg3 arg4 harg4 arg5 harg5 arg6 harg6 arg7 harg7 arg8 harg8 arg9 harg9 hc0 x0 x1 x2 x3 x4 x5 = View.canon (
      [⟨Rect.unit ![192, 0] ![64, 512] inb_S256x512_S64x512_192_0, rows x4 x5 (ch3 x0) (ch3 x1) (ch3 x2) (ch3 x3)
         (st3 0 slices_S64x512_o0_0_S64x128 slices_S1x512_o0_0_S1x128 x4 x1 x2 (hd0 zeroSt))
         (st3 128 slices_S64x512_o0_128_S64x128 slices_S1x512_o0_128_S1x128 x4 x1 x2 (hd1 zeroSt))
         (st3 256 slices_S64x512_o0_256_S64x128 slices_S1x512_o0_256_S1x128 x4 x1 x2 (hd2 zeroSt))
         (st3 384 slices_S64x512_o0_384_S64x128 slices_S1x512_o0_384_S1x128 x4 x1 x2 (hd3 zeroSt))⟩,
       ⟨Rect.unit ![128, 0] ![64, 512] inb_S256x512_S64x512_128_0, rows x4 x5 (ch2 x0) (ch2 x1) (ch2 x2) (ch2 x3)
         (st2 0 slices_S64x512_o0_0_S64x128 slices_S1x512_o0_0_S1x128 x4 x1 x2 (hd0 zeroSt))
         (st2 128 slices_S64x512_o0_128_S64x128 slices_S1x512_o0_128_S1x128 x4 x1 x2 (hd1 zeroSt))
         (st2 256 slices_S64x512_o0_256_S64x128 slices_S1x512_o0_256_S1x128 x4 x1 x2 (hd2 zeroSt))
         (st2 384 slices_S64x512_o0_384_S64x128 slices_S1x512_o0_384_S1x128 x4 x1 x2 (hd3 zeroSt))⟩,
       ⟨Rect.unit ![64, 0] ![64, 512] inb_S256x512_S64x512_64_0, rows x4 x5 (ch1 x0) (ch1 x1) (ch1 x2) (ch1 x3)
         (st1 0 slices_S64x512_o0_0_S64x128 slices_S1x512_o0_0_S1x128 x4 x1 x2 (hd0 zeroSt))
         (st1 128 slices_S64x512_o0_128_S64x128 slices_S1x512_o0_128_S1x128 x4 x1 x2 (hd1 zeroSt))
         (st1 256 slices_S64x512_o0_256_S64x128 slices_S1x512_o0_256_S1x128 x4 x1 x2 (hd2 zeroSt))
         (st1 384 slices_S64x512_o0_384_S64x128 slices_S1x512_o0_384_S1x128 x4 x1 x2 (hd3 zeroSt))⟩,
       ⟨Rect.unit ![0, 0] ![64, 512] inb_S256x512_S64x512_0_0, rows x4 x5 (ch0 x0) (ch0 x1) (ch0 x2) (ch0 x3)
         (hd0 zeroSt)
         (hd1 zeroSt)
         (hd2 zeroSt)
         (hd3 zeroSt)⟩] : List (View.Piece (Elt F) S256x512 .f32)) := by
  unfold out0_A_6
  rw [View.read_writes_junk_eq_canon]
  unfold kernelRun0_A
  dsimp only
  sl_unfold_words
  simp (disch := decide) only [↓View.readCov_skip, View.readCov_cons_toLoadRect, View.readCov_fill, View.readAt_eq_ld, View.ld_unit_lit, harg2.read_unread, harg3.read_unread, harg4.read_unread, harg5.read_unread, harg6.read_unread, harg7.read_unread]
  unfold_payloads
  simp only [st3, st2, st1, hd0, hd1, hd2, hd3, stepH, headS, kdec, kk, bc, last, oneSub, mask, ch0, ch1, ch2, ch3, rows, rowsH, gated, headO, qin, kin, qdec, mid, zeroSt]

/-- What a point inside a batch leaves of the state, chunk by chunk, the last stored first. -/
theorem sout_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S4x128x128 .f32) (harg9 : arg9.IsWhole) (hc0 : ¬cond0_0 i)
    (x0 : Vec F S256x512 .f32) (x1 : Vec F S256x512 .f32) (x2 : Vec F S256x512 .f32) (x3 : Vec F S256x512 .f32) (x4 : Vec F S1x512 .f32) (x5 : Vec F S1x128 .f32) (xs0 : Vec F S4x128x128 .f32) :
    sout0_B_0 c i arg2 harg2 arg3 harg3 arg4 harg4 arg5 harg5 arg6 harg6 arg7 harg7 arg8 harg8 arg9 harg9 hc0 x0 x1 x2 x3 x4 x5 xs0 = View.canon (
      [⟨Rect.unit ![3, 0, 0] ![1, 128, 128] inb_S4x128x128_S1x128x128_3_0_0, st4 384 slices_S64x512_o0_384_S64x128 slices_S1x512_o0_384_S1x128 x4 x1 x2 (hd3 xs0)⟩,
       ⟨Rect.unit ![2, 0, 0] ![1, 128, 128] inb_S4x128x128_S1x128x128_2_0_0, st4 256 slices_S64x512_o0_256_S64x128 slices_S1x512_o0_256_S1x128 x4 x1 x2 (hd2 xs0)⟩,
       ⟨Rect.unit ![1, 0, 0] ![1, 128, 128] inb_S4x128x128_S1x128x128_1_0_0, st4 128 slices_S64x512_o0_128_S64x128 slices_S1x512_o0_128_S1x128 x4 x1 x2 (hd1 xs0)⟩,
       ⟨Rect.unit ![0, 0, 0] ![1, 128, 128] inb_S4x128x128_S1x128x128_0_0_0, st4 0 slices_S64x512_o0_0_S64x128 slices_S1x512_o0_0_S1x128 x4 x1 x2 (hd0 xs0)⟩,
       ⟨Rect.unit ![3, 0, 0] ![1, 128, 128] inb_S4x128x128_S1x128x128_3_0_0, st3 384 slices_S64x512_o0_384_S64x128 slices_S1x512_o0_384_S1x128 x4 x1 x2 (hd3 xs0)⟩,
       ⟨Rect.unit ![2, 0, 0] ![1, 128, 128] inb_S4x128x128_S1x128x128_2_0_0, st3 256 slices_S64x512_o0_256_S64x128 slices_S1x512_o0_256_S1x128 x4 x1 x2 (hd2 xs0)⟩,
       ⟨Rect.unit ![1, 0, 0] ![1, 128, 128] inb_S4x128x128_S1x128x128_1_0_0, st3 128 slices_S64x512_o0_128_S64x128 slices_S1x512_o0_128_S1x128 x4 x1 x2 (hd1 xs0)⟩,
       ⟨Rect.unit ![0, 0, 0] ![1, 128, 128] inb_S4x128x128_S1x128x128_0_0_0, st3 0 slices_S64x512_o0_0_S64x128 slices_S1x512_o0_0_S1x128 x4 x1 x2 (hd0 xs0)⟩,
       ⟨Rect.unit ![3, 0, 0] ![1, 128, 128] inb_S4x128x128_S1x128x128_3_0_0, st2 384 slices_S64x512_o0_384_S64x128 slices_S1x512_o0_384_S1x128 x4 x1 x2 (hd3 xs0)⟩,
       ⟨Rect.unit ![2, 0, 0] ![1, 128, 128] inb_S4x128x128_S1x128x128_2_0_0, st2 256 slices_S64x512_o0_256_S64x128 slices_S1x512_o0_256_S1x128 x4 x1 x2 (hd2 xs0)⟩,
       ⟨Rect.unit ![1, 0, 0] ![1, 128, 128] inb_S4x128x128_S1x128x128_1_0_0, st2 128 slices_S64x512_o0_128_S64x128 slices_S1x512_o0_128_S1x128 x4 x1 x2 (hd1 xs0)⟩,
       ⟨Rect.unit ![0, 0, 0] ![1, 128, 128] inb_S4x128x128_S1x128x128_0_0_0, st2 0 slices_S64x512_o0_0_S64x128 slices_S1x512_o0_0_S1x128 x4 x1 x2 (hd0 xs0)⟩,
       ⟨Rect.unit ![3, 0, 0] ![1, 128, 128] inb_S4x128x128_S1x128x128_3_0_0, st1 384 slices_S64x512_o0_384_S64x128 slices_S1x512_o0_384_S1x128 x4 x1 x2 (hd3 xs0)⟩,
       ⟨Rect.unit ![2, 0, 0] ![1, 128, 128] inb_S4x128x128_S1x128x128_2_0_0, st1 256 slices_S64x512_o0_256_S64x128 slices_S1x512_o0_256_S1x128 x4 x1 x2 (hd2 xs0)⟩,
       ⟨Rect.unit ![1, 0, 0] ![1, 128, 128] inb_S4x128x128_S1x128x128_1_0_0, st1 128 slices_S64x512_o0_128_S64x128 slices_S1x512_o0_128_S1x128 x4 x1 x2 (hd1 xs0)⟩,
       ⟨Rect.unit ![0, 0, 0] ![1, 128, 128] inb_S4x128x128_S1x128x128_0_0_0, st1 0 slices_S64x512_o0_0_S64x128 slices_S1x512_o0_0_S1x128 x4 x1 x2 (hd0 xs0)⟩] : List (View.Piece (Elt F) S4x128x128 .f32)) := by
  unfold sout0_B_0
  rw [View.read_writes_junk_eq_canon]
  unfold kernelRun0_B
  dsimp only
  sl_unfold_words
  simp (disch := decide) only [↓View.readCov_skip, View.readCov_cons_toLoadRect, View.readCov_fill, View.readAt_eq_ld, View.ld_unit_lit, harg2.read_unread, harg3.read_unread, harg4.read_unread, harg5.read_unread, harg6.read_unread, harg7.read_unread, harg9.read_unread]
  unfold_payloads
  simp only [st4, st3, st2, st1, hd0, hd1, hd2, hd3, stepH, headS, kdec, kk, bc, last, oneSub, mask, ch0, ch1, ch2, ch3]

/-- What a point inside a batch leaves of the rows of the result, chunk by chunk, the last stored first. -/
theorem out_B (c : Dev nD) (i : grid0.Coords) (arg2 : Memref sig .tc .vmem S256x512 .f32) (harg2 : arg2.IsWhole) (arg3 : Memref sig .tc .vmem S256x512 .f32) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S256x512 .f32) (harg8 : arg8.IsWhole) (arg9 : Memref sig .tc .vmem S4x128x128 .f32) (harg9 : arg9.IsWhole) (hc0 : ¬cond0_0 i)
    (x0 : Vec F S256x512 .f32) (x1 : Vec F S256x512 .f32) (x2 : Vec F S256x512 .f32) (x3 : Vec F S256x512 .f32) (x4 : Vec F S1x512 .f32) (x5 : Vec F S1x128 .f32) (xs0 : Vec F S4x128x128 .f32) :
    out0_B_6 c i arg2 harg2 arg3 harg3 arg4 harg4 arg5 harg5 arg6 harg6 arg7 harg7 arg8 harg8 arg9 harg9 hc0 x0 x1 x2 x3 x4 x5 xs0 = View.canon (
      [⟨Rect.unit ![192, 0] ![64, 512] inb_S256x512_S64x512_192_0, rows x4 x5 (ch3 x0) (ch3 x1) (ch3 x2) (ch3 x3)
         (st3 0 slices_S64x512_o0_0_S64x128 slices_S1x512_o0_0_S1x128 x4 x1 x2 (hd0 xs0))
         (st3 128 slices_S64x512_o0_128_S64x128 slices_S1x512_o0_128_S1x128 x4 x1 x2 (hd1 xs0))
         (st3 256 slices_S64x512_o0_256_S64x128 slices_S1x512_o0_256_S1x128 x4 x1 x2 (hd2 xs0))
         (st3 384 slices_S64x512_o0_384_S64x128 slices_S1x512_o0_384_S1x128 x4 x1 x2 (hd3 xs0))⟩,
       ⟨Rect.unit ![128, 0] ![64, 512] inb_S256x512_S64x512_128_0, rows x4 x5 (ch2 x0) (ch2 x1) (ch2 x2) (ch2 x3)
         (st2 0 slices_S64x512_o0_0_S64x128 slices_S1x512_o0_0_S1x128 x4 x1 x2 (hd0 xs0))
         (st2 128 slices_S64x512_o0_128_S64x128 slices_S1x512_o0_128_S1x128 x4 x1 x2 (hd1 xs0))
         (st2 256 slices_S64x512_o0_256_S64x128 slices_S1x512_o0_256_S1x128 x4 x1 x2 (hd2 xs0))
         (st2 384 slices_S64x512_o0_384_S64x128 slices_S1x512_o0_384_S1x128 x4 x1 x2 (hd3 xs0))⟩,
       ⟨Rect.unit ![64, 0] ![64, 512] inb_S256x512_S64x512_64_0, rows x4 x5 (ch1 x0) (ch1 x1) (ch1 x2) (ch1 x3)
         (st1 0 slices_S64x512_o0_0_S64x128 slices_S1x512_o0_0_S1x128 x4 x1 x2 (hd0 xs0))
         (st1 128 slices_S64x512_o0_128_S64x128 slices_S1x512_o0_128_S1x128 x4 x1 x2 (hd1 xs0))
         (st1 256 slices_S64x512_o0_256_S64x128 slices_S1x512_o0_256_S1x128 x4 x1 x2 (hd2 xs0))
         (st1 384 slices_S64x512_o0_384_S64x128 slices_S1x512_o0_384_S1x128 x4 x1 x2 (hd3 xs0))⟩,
       ⟨Rect.unit ![0, 0] ![64, 512] inb_S256x512_S64x512_0_0, rows x4 x5 (ch0 x0) (ch0 x1) (ch0 x2) (ch0 x3)
         (hd0 xs0)
         (hd1 xs0)
         (hd2 xs0)
         (hd3 xs0)⟩] : List (View.Piece (Elt F) S256x512 .f32)) := by
  unfold out0_B_6
  rw [View.read_writes_junk_eq_canon]
  unfold kernelRun0_B
  dsimp only
  sl_unfold_words
  simp (disch := decide) only [↓View.readCov_skip, View.readCov_cons_toLoadRect, View.readCov_fill, View.readAt_eq_ld, View.ld_unit_lit, harg2.read_unread, harg3.read_unread, harg4.read_unread, harg5.read_unread, harg6.read_unread, harg7.read_unread, harg9.read_unread]
  unfold_payloads
  simp only [st3, st2, st1, hd0, hd1, hd2, hd3, stepH, headS, kdec, kk, bc, last, oneSub, mask, ch0, ch1, ch2, ch3, rows, rowsH, gated, headO, qin, kin, qdec, mid]

end Cert.KernelIdeal.Hgrn

end
-- ==== Proof.HgrnSpec.lean ====
module

public import Idealize.ShloMosaic.Lib.Pointwise

/-! # The gated recurrence over chunks, as extended-real arithmetic

One head of one batch row: a chunk has 64 rows of 128 columns. The state is written transposed, value column first. -/

@[expose] public section

noncomputable section

namespace Cert.Hgrn

open Idealize.ShloMosaic

/-- The log of a forget gate: its lower bound `l`, its pre-activation `z`. -/
def logGate (l z : EReal) : EReal := Ideal.log (l + (1 - l) * Ideal.logistic z)

/-- The key that goes with the gate: one minus the gate. -/
def keyGate (l z : EReal) : EReal := (1 - l) * Ideal.logistic (-z)

/-- The running sum of the log gates of a chunk, up to and including row `t`, in column `d`. -/
def cum (L : Fin 128 → EReal) (Z : Fin 64 → Fin 128 → EReal) (t : Fin 64) (d : Fin 128) : EReal :=
  ∑ s : Fin 64, if s ≤ t then logGate (L d) (Z s d) else 0

/-- The state after a chunk from the state before it. -/
def stepS (L : Fin 128 → EReal) (Z V : Fin 64 → Fin 128 → EReal) (S : Fin 128 → Fin 128 → EReal) (e d : Fin 128) : EReal :=
  Ideal.exp (cum L Z 63 d) * S e d + ∑ s : Fin 64, V s e * (keyGate (L d) (Z s d) * Ideal.exp (cum L Z 63 d - cum L Z s d))

/-- A chunk's output before the normalisation. -/
def pre (L : Fin 128 → EReal) (Q Z V : Fin 64 → Fin 128 → EReal) (S : Fin 128 → Fin 128 → EReal) (t : Fin 64) (e : Fin 128) : EReal :=
  (∑ s : Fin 64, if s ≤ t then (∑ d : Fin 128, Q t d * Ideal.exp (cum L Z t d - cum L Z 31 d) *
      (keyGate (L d) (Z s d) * Ideal.exp (cum L Z 31 d - cum L Z s d))) * V s e else 0)
    + ∑ d : Fin 128, Q t d * Ideal.exp (cum L Z t d) * S e d

/-- A chunk's output: the root mean square of a row divided out, times the weights `N`, gated by `G`. -/
def outS (L N : Fin 128 → EReal) (Q Z V G : Fin 64 → Fin 128 → EReal) (S : Fin 128 → Fin 128 → EReal) (t : Fin 64) (e : Fin 128) : EReal :=
  pre L Q Z V S t e * Ideal.rsqrt (Ideal.div (∑ e' : Fin 128, pre L Q Z V S t e' * pre L Q Z V S t e') (Ideal.ofBits .f32 1124073472#32)
    + Ideal.ofBits .f32 897988541#32) * N e * G t e * Ideal.logistic (G t e)

/-- The row of batch `b`, chunk `n`, row `t` of the chunk (of 2048 rows a batch, 65536 in all). -/
def rowOf (b n : Nat) (t : Fin 64) : Fin 65536 := ⟨(b * 2048 + n * 64 + t.val) % 65536, Nat.mod_lt _ (by decide)⟩

/-- The column of head `h`, column `d` of the head, of the group of columns that starts at `base`. -/
def colOf (base h : Nat) (d : Fin 128) : Fin 5376 := ⟨(base + h * 128 + d.val) % 5376, Nat.mod_lt _ (by decide)⟩

/-- The column of head `h`, column `d` of the head, among 512. -/
def col5 (h : Nat) (d : Fin 128) : Fin 512 := ⟨(h * 128 + d.val) % 512, Nat.mod_lt _ (by decide)⟩

variable (x : Fin 65536 → Fin 5376 → EReal) (lb : Fin 512 → EReal) (ng : Fin 128 → EReal)

/-- One chunk of one head of the group of columns that starts at `base`. -/
def part (base b h n : Nat) (t : Fin 64) (d : Fin 128) : EReal := x (rowOf b n t) (colOf base h d)

/-- The state of batch `b`, head `h`, before chunk `n`. -/
def St (b h : Nat) : Nat → Fin 128 → Fin 128 → EReal
  | 0 => fun _ _ => 0
  | n + 1 => stepS (fun d => lb (col5 h d)) (part x 1536 b h n) (part x 2048 b h n) (St b h n)

/-- The result's entry of batch `b`, head `h`, chunk `n`, row `t`, column `e` of the head. -/
def res (b h n : Nat) (t : Fin 64) (e : Fin 128) : EReal :=
  outS (fun d => lb (col5 h d)) ng (part x 1024 b h n) (part x 1536 b h n) (part x 2048 b h n) (part x 2560 b h n)
    (St x lb b h n) t e

/-- The one-bit word of `row ≥ column` inside a chunk. -/
theorem cmp_ge : ∀ r s : Fin 64, IntOp.cmpi .sge (BitVec.ofNat 32 r.val) (BitVec.ofNat 32 s.val) = if s ≤ r then 1#1 else 0#1 := by
  decide +kernel

/-- A factor that is the mask's bit read as a number keeps or drops the other factor. -/
theorem mask_mul (r s : Fin 64) (y : EReal) :
    FloatOps.sitofp (F := Ideal) .f32 (BitVec.setWidth 32 (IntOp.cmpi .sge (BitVec.ofNat 32 r.val) (BitVec.ofNat 32 s.val))) * y
      = if s ≤ r then y else 0 := by
  rw [cmp_ge]
  split
  · show (((((1#1).setWidth 32).toInt : ℝ)) : EReal) * y = y
    rw [show ((1#1).setWidth 32).toInt = 1 from by decide, Int.cast_one, EReal.coe_one, one_mul]
  · show (((((0#1).setWidth 32).toInt : ℝ)) : EReal) * y = 0
    rw [show ((0#1).setWidth 32).toInt = 0 from by decide, Int.cast_zero, EReal.coe_zero, zero_mul]

/-- A choice by the mask's bit. -/
theorem mask_select (r s : Fin 64) (y w : EReal) :
    Scalar.select (IntOp.cmpi .sge (BitVec.ofNat 32 r.val) (BitVec.ofNat 32 s.val)) y w = if s ≤ r then y else w := by
  rw [cmp_ge]
  split <;> simp [Scalar.select]

end Cert.Hgrn

end
-- ==== Proof.HgrnStages.lean ====
module

public import proofs.«01_k».proof.Proof.HgrnBody
public import proofs.«01_k».proof.Proof.HgrnSpec

/-! # The stages of a chunk, at an index, over the extended reals -/

@[expose] public section
set_option maxRecDepth 16384
noncomputable section
namespace Cert.KernelIdeal.Hgrn
open Idealize.ShloMosaic Idealize.ShloMosaic.TcCoe
open Cert.KernelIdeal Cert.KernelIdeal.Gen Cert.Hgrn

/-- Column `d` of the 128 that start at `o`. -/
def cl (o : Nat) (ho : o + 128 ≤ 512) (d : Fin 128) : Fin 512 := ⟨o + d.val, by omega⟩

section
variable (o : Nat) (ho : o + 128 ≤ 512) (hs : S64x512.Slices ![0, o] S64x128) (hs1 : S1x512.Slices ![0, o] S1x128)
  (lb : Vec Ideal S1x512 .f32) (ng : Vec Ideal S1x128 .f32) (q z v g : Vec Ideal S64x512 .f32) (st : Vec Ideal S1x128x128 .f32)

/-- The running sum is the specification's. -/
theorem bc_at (r : Fin 64) (d : Fin 128) :
    bc lb z (ix2 r (cl o ho d)) = cum (fun d => lb (ix2 0 (cl o ho d))) (fun s d => z (ix2 s (cl o ho d))) r d := by
  pointwise [bc, mask, oneSub, dot_S64x64_S64x512_S64x512_1_0_0_1_n_n]
  exact Finset.sum_congr rfl fun s _ => mask_mul r s _

/-- The key gate is the specification's. -/
theorem kk_at (r : Fin 64) (c : Fin 512) : kk lb z (ix2 r c) = keyGate (lb (ix2 0 c)) (z (ix2 r c)) := by
  pointwise [kk, oneSub, keyGate]
  rw [zero_sub]

theorem headS_at (kd : FVec Ideal S64x512 .f32) (dec : FVec Ideal S1x512 .f32) (e d : Fin 128) :
    headS o hs hs1 kd dec v st (ix3 0 e d)
      = dec (ix2 0 (cl o ho d)) * st (ix3 0 e d) + ∑ s, v (ix2 s (cl o ho e)) * kd (ix2 s (cl o ho d)) := by
  pointwise [headS, dot_S128x64_S64x128_S128x128_1_0_0_1_n_n, cl]

theorem headO_at (qi ki qd : FVec Ideal S64x512 .bf16) (r : Fin 64) (e : Fin 128) :
    headO o hs qi ki qd v st (ix2 r e)
      = (∑ s : Fin 64, if s ≤ r then (∑ d, qi (ix2 r (cl o ho d)) * ki (ix2 s (cl o ho d))) * v (ix2 s (cl o ho e)) else 0)
        + ∑ d, qd (ix2 r (cl o ho d)) * st (ix3 0 e d) := by
  pointwise [headO, mask, dot_S64x64_S64x128_S64x128_1_0_0_1_n_n, dot_S64x128_S64x128_S64x64_1_1_0_0_n_n, dot_S64x128_S128x128_S64x128_1_1_0_0_n_n, cl]
  simp only [mask_select]

theorem gated_at (y : FVec Ideal S64x128 .f32) (r : Fin 64) (e : Fin 128) :
    gated o hs ng g y (ix2 r e)
      = y (ix2 r e) * Ideal.rsqrt (Ideal.div (∑ e' : Fin 128, y (ix2 r e') * y (ix2 r e')) (Ideal.ofBits .f32 1124073472#32)
        + Ideal.ofBits .f32 897988541#32) * ng (ix2 0 e) * g (ix2 r (cl o ho e)) * Ideal.logistic (g (ix2 r (cl o ho e))) := by
  pointwise [gated, cl]

/-- One head's state after a chunk is the specification's. -/
theorem stepH_at (e d : Fin 128) :
    stepH o hs hs1 lb z v st (ix3 0 e d)
      = stepS (fun d => lb (ix2 0 (cl o ho d))) (fun s d => z (ix2 s (cl o ho d))) (fun s d => v (ix2 s (cl o ho d)))
        (fun e d => st (ix3 0 e d)) e d := by
  unfold stepH stepS
  rw [headS_at o ho]
  pointwise [kdec, last, kk_at, bc_at o ho]

/-- One head's rows of the result are the specification's. -/
theorem rowsH_at (r : Fin 64) (e : Fin 128) :
    rowsH o hs lb ng q z v g st (ix2 r e)
      = outS (fun d => lb (ix2 0 (cl o ho d))) (fun d => ng (ix2 0 d)) (fun s d => q (ix2 s (cl o ho d)))
        (fun s d => z (ix2 s (cl o ho d))) (fun s d => v (ix2 s (cl o ho d))) (fun s d => g (ix2 s (cl o ho d)))
        (fun e d => st (ix3 0 e d)) r e := by
  unfold rowsH outS
  rw [gated_at o ho]
  simp only [headO_at o ho, pre]
  pointwise [qin, kin, qdec, mid, kk_at, bc_at o ho]
end

end Cert.KernelIdeal.Hgrn

end
-- ==== Proof.HgrnRead.lean ====
module

public import proofs.«01_k».proof.Proof.HgrnStages

/-! # The blocks that a grid point reads, and the pieces it stores, at an index -/

@[expose] public section
set_option maxRecDepth 16384
noncomputable section
namespace Cert.KernelIdeal.Hgrn
open Idealize.ShloMosaic Idealize.ShloMosaic.TcCoe
open Idealize.SL Idealize.SL.RA Idealize.SL.BI
open Cert.KernelIdeal Cert.KernelIdeal.Gen Cert.Hgrn

variable {F : FTy → Type} [FloatOps F]
variable (m : (ℓ : Loc nD τ sig) → Buf (Elt F) ℓ)

/-- Where a grid point's block lies in each input. -/
theorem idx_in : ∀ t : Fin cfg0.N,
    (win0_0.index t (0 : Fin 2) = t.val ∧ win0_0.index t (1 : Fin 2) = 2) ∧ (win0_1.index t (0 : Fin 2) = t.val ∧ win0_1.index t (1 : Fin 2) = 3)
    ∧ (win0_2.index t (0 : Fin 2) = t.val ∧ win0_2.index t (1 : Fin 2) = 4) ∧ (win0_3.index t (0 : Fin 2) = t.val ∧ win0_3.index t (1 : Fin 2) = 5)
    ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

theorem t_lt (t : Fin cfg0.N) : t.val < 256 := lt_of_lt_of_eq t.isLt N_0

/-- An entry of the projection, at a row and a column. -/
def at0 (c : Dev nD) (i j : Nat) (hi : i < 65536) (hj : j < 5376) : F .f32 :=
  m ((c : Thread nD τ).loc main_arg0) (ix2 (⟨i, hi⟩ : Fin 65536) (⟨j, hj⟩ : Fin 5376))

theorem X0_at (c : Dev nD) (t : Fin cfg0.N) (r : Fin 256) (d : Fin 512) :
    X0_0 m c t (ix2 r d) = at0 m c (256 * t.val + r.val) (1024 + d.val) (by have := t_lt t; omega) (by omega) := by
  obtain ⟨⟨e0, e1⟩, -⟩ := idx_in t
  unfold X0_0 Pipeline.Window.fill at0
  rw [dif_pos (moved0_0 t _)]
  refine congrArg (m ((c : Thread nD τ).loc main_arg0)) (funext fun a => Fin.ext ?_)
  match a with
  | ⟨0, _⟩ => show win0_0.index t (0 : Fin 2) * 256 + 1 * r.val = 256 * t.val + r.val; omega
  | ⟨1, _⟩ => show win0_0.index t (1 : Fin 2) * 512 + 1 * d.val = 1024 + d.val; omega

theorem X1_at (c : Dev nD) (t : Fin cfg0.N) (r : Fin 256) (d : Fin 512) :
    X0_1 m c t (ix2 r d) = at0 m c (256 * t.val + r.val) (1536 + d.val) (by have := t_lt t; omega) (by omega) := by
  obtain ⟨-, ⟨e0, e1⟩, -⟩ := idx_in t
  unfold X0_1 Pipeline.Window.fill at0
  rw [dif_pos (moved0_1 t _)]
  refine congrArg (m ((c : Thread nD τ).loc main_arg0)) (funext fun a => Fin.ext ?_)
  match a with
  | ⟨0, _⟩ => show win0_1.index t (0 : Fin 2) * 256 + 1 * r.val = 256 * t.val + r.val; omega
  | ⟨1, _⟩ => show win0_1.index t (1 : Fin 2) * 512 + 1 * d.val = 1536 + d.val; omega

theorem X2_at (c : Dev nD) (t : Fin cfg0.N) (r : Fin 256) (d : Fin 512) :
    X0_2 m c t (ix2 r d) = at0 m c (256 * t.val + r.val) (2048 + d.val) (by have := t_lt t; omega) (by omega) := by
  obtain ⟨-, -, ⟨e0, e1⟩, -⟩ := idx_in t
  unfold X0_2 Pipeline.Window.fill at0
  rw [dif_pos (moved0_2 t _)]
  refine congrArg (m ((c : Thread nD τ).loc main_arg0)) (funext fun a => Fin.ext ?_)
  match a with
  | ⟨0, _⟩ => show win0_2.index t (0 : Fin 2) * 256 + 1 * r.val = 256 * t.val + r.val; omega
  | ⟨1, _⟩ => show win0_2.index t (1 : Fin 2) * 512 + 1 * d.val = 2048 + d.val; omega

theorem X3_at (c : Dev nD) (t : Fin cfg0.N) (r : Fin 256) (d : Fin 512) :
    X0_3 m c t (ix2 r d) = at0 m c (256 * t.val + r.val) (2560 + d.val) (by have := t_lt t; omega) (by omega) := by
  obtain ⟨-, -, -, ⟨e0, e1⟩, -⟩ := idx_in t
  unfold X0_3 Pipeline.Window.fill at0
  rw [dif_pos (moved0_3 t _)]
  refine congrArg (m ((c : Thread nD τ).loc main_arg0)) (funext fun a => Fin.ext ?_)
  match a with
  | ⟨0, _⟩ => show win0_3.index t (0 : Fin 2) * 256 + 1 * r.val = 256 * t.val + r.val; omega
  | ⟨1, _⟩ => show win0_3.index t (1 : Fin 2) * 512 + 1 * d.val = 2560 + d.val; omega

theorem X4_at (c : Dev nD) (t : Fin cfg0.N) (d : Fin 512) :
    iblk m c 4 t (ix2 (0 : Fin 1) d) = m ((c : Thread nD τ).loc main_arg1) (ix2 (0 : Fin 1) d) := by
  obtain ⟨-, -, -, -, ⟨e0, e1⟩, -⟩ := idx_in t
  refine congrArg (m ((c : Thread nD τ).loc main_arg1)) (funext fun a => Fin.ext ?_)
  match a with
  | ⟨0, _⟩ => show win0_4.index t (0 : Fin 2) * 1 + 1 * 0 = 0; omega
  | ⟨1, _⟩ => show win0_4.index t (1 : Fin 2) * 512 + 1 * d.val = d.val; omega

theorem X5_at (c : Dev nD) (t : Fin cfg0.N) (d : Fin 128) :
    iblk m c 5 t (ix2 (0 : Fin 1) d) = m ((c : Thread nD τ).loc main_arg2) (ix2 (0 : Fin 1) d) := by
  obtain ⟨-, -, -, -, -, ⟨e0, e1⟩⟩ := idx_in t
  refine congrArg (m ((c : Thread nD τ).loc main_arg2)) (funext fun a => Fin.ext ?_)
  match a with
  | ⟨0, _⟩ => show win0_5.index t (0 : Fin 2) * 1 + 1 * 0 = 0; omega
  | ⟨1, _⟩ => show win0_5.index t (1 : Fin 2) * 128 + 1 * d.val = d.val; omega

/-- A chunk's rows are 64 of the block's. -/
theorem ch0_at (x : Vec F S256x512 .f32) (r : Fin 64) (d : Fin 512) : ch0 x (ix2 r d) = x (ix2 (⟨0 + r.val, by omega⟩ : Fin 256) d) :=
  congrArg x (funext fun a => Fin.ext (by
    match a with
    | ⟨0, _⟩ => show 0 + 1 * r.val = 0 + r.val; omega
    | ⟨1, _⟩ => show 0 + 1 * d.val = d.val; omega))
theorem ch1_at (x : Vec F S256x512 .f32) (r : Fin 64) (d : Fin 512) : ch1 x (ix2 r d) = x (ix2 (⟨64 + r.val, by omega⟩ : Fin 256) d) :=
  congrArg x (funext fun a => Fin.ext (by
    match a with
    | ⟨0, _⟩ => show 64 + 1 * r.val = 64 + r.val; omega
    | ⟨1, _⟩ => show 0 + 1 * d.val = d.val; omega))
theorem ch2_at (x : Vec F S256x512 .f32) (r : Fin 64) (d : Fin 512) : ch2 x (ix2 r d) = x (ix2 (⟨128 + r.val, by omega⟩ : Fin 256) d) :=
  congrArg x (funext fun a => Fin.ext (by
    match a with
    | ⟨0, _⟩ => show 128 + 1 * r.val = 128 + r.val; omega
    | ⟨1, _⟩ => show 0 + 1 * d.val = d.val; omega))
theorem ch3_at (x : Vec F S256x512 .f32) (r : Fin 64) (d : Fin 512) : ch3 x (ix2 r d) = x (ix2 (⟨192 + r.val, by omega⟩ : Fin 256) d) :=
  congrArg x (funext fun a => Fin.ext (by
    match a with
    | ⟨0, _⟩ => show 192 + 1 * r.val = 192 + r.val; omega
    | ⟨1, _⟩ => show 0 + 1 * d.val = d.val; omega))

/-- A head's state is one plane of the scratch. -/
theorem hd0_at (s : Vec F S4x128x128 .f32) (e d : Fin 128) : hd0 s (ix3 (0 : Fin 1) e d) = s (ix3 (0 : Fin 4) e d) :=
  congrArg s (funext fun a => Fin.ext (by
    match a with
    | ⟨0, _⟩ => rfl
    | ⟨1, _⟩ => show 0 + 1 * e.val = e.val; omega
    | ⟨2, _⟩ => show 0 + 1 * d.val = d.val; omega))
theorem hd1_at (s : Vec F S4x128x128 .f32) (e d : Fin 128) : hd1 s (ix3 (0 : Fin 1) e d) = s (ix3 (1 : Fin 4) e d) :=
  congrArg s (funext fun a => Fin.ext (by
    match a with
    | ⟨0, _⟩ => rfl
    | ⟨1, _⟩ => show 0 + 1 * e.val = e.val; omega
    | ⟨2, _⟩ => show 0 + 1 * d.val = d.val; omega))
theorem hd2_at (s : Vec F S4x128x128 .f32) (e d : Fin 128) : hd2 s (ix3 (0 : Fin 1) e d) = s (ix3 (2 : Fin 4) e d) :=
  congrArg s (funext fun a => Fin.ext (by
    match a with
    | ⟨0, _⟩ => rfl
    | ⟨1, _⟩ => show 0 + 1 * e.val = e.val; omega
    | ⟨2, _⟩ => show 0 + 1 * d.val = d.val; omega))
theorem hd3_at (s : Vec F S4x128x128 .f32) (e d : Fin 128) : hd3 s (ix3 (0 : Fin 1) e d) = s (ix3 (3 : Fin 4) e d) :=
  congrArg s (funext fun a => Fin.ext (by
    match a with
    | ⟨0, _⟩ => rfl
    | ⟨1, _⟩ => show 0 + 1 * e.val = e.val; omega
    | ⟨2, _⟩ => show 0 + 1 * d.val = d.val; omega))

/-- The four heads' planes, stored after what `L` stores. -/
def planes (p0 p1 p2 p3 : Vec F S1x128x128 .f32) (L : List (View.Piece (Elt F) S4x128x128 .f32)) : List (View.Piece (Elt F) S4x128x128 .f32) :=
  (⟨Rect.unit ![3, 0, 0] ![1, 128, 128] inb_S4x128x128_S1x128x128_3_0_0, p3⟩ :: ⟨Rect.unit ![2, 0, 0] ![1, 128, 128] inb_S4x128x128_S1x128x128_2_0_0, p2⟩
        :: ⟨Rect.unit ![1, 0, 0] ![1, 128, 128] inb_S4x128x128_S1x128x128_1_0_0, p1⟩ :: ⟨Rect.unit ![0, 0, 0] ![1, 128, 128] inb_S4x128x128_S1x128x128_0_0_0, p0⟩ :: L)

/-- The four groups of 64 rows that a grid point stores. -/
def bands (p0 p1 p2 p3 : Vec F S64x512 .f32) : List (View.Piece (Elt F) S256x512 .f32) :=
  [⟨Rect.unit ![192, 0] ![64, 512] inb_S256x512_S64x512_192_0, p3⟩, ⟨Rect.unit ![128, 0] ![64, 512] inb_S256x512_S64x512_128_0, p2⟩,
        ⟨Rect.unit ![64, 0] ![64, 512] inb_S256x512_S64x512_64_0, p1⟩, ⟨Rect.unit ![0, 0] ![64, 512] inb_S256x512_S64x512_0_0, p0⟩]

/-- A plane stored last is read back. -/
theorem plane_hit (o : Nat) (inb : ∀ a, (![o, 0, 0] : Fin 3 → Nat) a + (![1, 128, 128] : Fin 3 → Nat) a ≤ S4x128x128.size a)
    (p : Vec F S1x128x128 .f32) (L : List (View.Piece (Elt F) S4x128x128 .f32)) (h : Fin 4) (ho : h.val = o) (e d : Fin 128) :
    View.canon ((⟨Rect.unit ![o, 0, 0] ![1, 128, 128] inb, p⟩ : View.Piece (Elt F) S4x128x128 .f32) :: L) (ix3 h e d) = p (ix3 (0 : Fin 1) e d) := by
  have emb : (Rect.unit (s := S4x128x128) ![o, 0, 0] ![1, 128, 128] inb).emb (ix3 (0 : Fin 1) e d) = ix3 h e d :=
    funext fun a => Fin.ext (by
      match a with
      | ⟨0, _⟩ => show o + 1 * 0 = h.val; omega
      | ⟨1, _⟩ => show 0 + 1 * e.val = e.val; omega
      | ⟨2, _⟩ => show 0 + 1 * d.val = d.val; omega)
  rw [← emb]
  exact View.canon_cons_emb _ _ _ _

/-- A plane stored for another head leaves a head's plane alone. -/
theorem plane_miss (o : Nat) (inb : ∀ a, (![o, 0, 0] : Fin 3 → Nat) a + (![1, 128, 128] : Fin 3 → Nat) a ≤ S4x128x128.size a)
    (p : Vec F S1x128x128 .f32) (L : List (View.Piece (Elt F) S4x128x128 .f32)) (h : Fin 4) (ho : h.val ≠ o) (e d : Fin 128) :
    View.canon ((⟨Rect.unit ![o, 0, 0] ![1, 128, 128] inb, p⟩ : View.Piece (Elt F) S4x128x128 .f32) :: L) (ix3 h e d) = View.canon L (ix3 h e d) := by
  refine View.canon_cons_of_not_mem _ _ fun hm => ?_
  have h0 := (Rect.mem_set_unit (inb := inb)).mp hm (0 : Fin 3)
  have : o ≤ h.val ∧ h.val < o + 1 := h0
  omega

/-- The four planes stored last are what the scratch holds. -/
theorem planes_at (p0 p1 p2 p3 : Vec F S1x128x128 .f32) (L : List (View.Piece (Elt F) S4x128x128 .f32)) (e d : Fin 128) :
    View.canon (planes p0 p1 p2 p3 L) (ix3 (0 : Fin 4) e d) = p0 (ix3 (0 : Fin 1) e d)
      ∧ View.canon (planes p0 p1 p2 p3 L) (ix3 (1 : Fin 4) e d) = p1 (ix3 (0 : Fin 1) e d)
      ∧ View.canon (planes p0 p1 p2 p3 L) (ix3 (2 : Fin 4) e d) = p2 (ix3 (0 : Fin 1) e d)
      ∧ View.canon (planes p0 p1 p2 p3 L) (ix3 (3 : Fin 4) e d) = p3 (ix3 (0 : Fin 1) e d) := by
  unfold planes
  refine ⟨?_, ?_, ?_, ?_⟩
  · rw [plane_miss 3 _ _ _ _ (by decide), plane_miss 2 _ _ _ _ (by decide), plane_miss 1 _ _ _ _ (by decide), plane_hit 0 _ _ _ _ rfl]
  · rw [plane_miss 3 _ _ _ _ (by decide), plane_miss 2 _ _ _ _ (by decide), plane_hit 1 _ _ _ _ rfl]
  · rw [plane_miss 3 _ _ _ _ (by decide), plane_hit 2 _ _ _ _ rfl]
  · rw [plane_hit 3 _ _ _ _ rfl]

/-- A group of rows stored last is read back. -/
theorem band_hit (o : Nat) (inb : ∀ a, (![o, 0] : Fin 2 → Nat) a + (![64, 512] : Fin 2 → Nat) a ≤ S256x512.size a)
    (p : Vec F S64x512 .f32) (L : List (View.Piece (Elt F) S256x512 .f32)) (k : Fin 256) (r : Fin 64) (ho : k.val = o + r.val) (d : Fin 512) :
    View.canon ((⟨Rect.unit ![o, 0] ![64, 512] inb, p⟩ : View.Piece (Elt F) S256x512 .f32) :: L) (ix2 k d) = p (ix2 r d) := by
  have emb : (Rect.unit (s := S256x512) ![o, 0] ![64, 512] inb).emb (ix2 r d) = ix2 k d :=
    funext fun a => Fin.ext (by
      match a with
      | ⟨0, _⟩ => show o + 1 * r.val = k.val; omega
      | ⟨1, _⟩ => show 0 + 1 * d.val = d.val; omega)
  rw [← emb]
  exact View.canon_cons_emb _ _ _ _

/-- A group of rows stored elsewhere leaves a row alone. -/
theorem band_miss (o : Nat) (inb : ∀ a, (![o, 0] : Fin 2 → Nat) a + (![64, 512] : Fin 2 → Nat) a ≤ S256x512.size a)
    (p : Vec F S64x512 .f32) (L : List (View.Piece (Elt F) S256x512 .f32)) (k : Fin 256) (ho : k.val < o) (d : Fin 512) :
    View.canon ((⟨Rect.unit ![o, 0] ![64, 512] inb, p⟩ : View.Piece (Elt F) S256x512 .f32) :: L) (ix2 k d) = View.canon L (ix2 k d) := by
  refine View.canon_cons_of_not_mem _ _ fun hm => ?_
  have h0 := (Rect.mem_set_unit (inb := inb)).mp hm (0 : Fin 2)
  have : o ≤ k.val ∧ k.val < o + 64 := h0
  omega

/-- The four groups of rows stored are what the block of the result holds. -/
theorem bands_at (p0 p1 p2 p3 : Vec F S64x512 .f32) (k : Fin 256) (r : Fin 64) (d : Fin 512) :
    (k.val = 0 + r.val → View.canon (bands p0 p1 p2 p3) (ix2 k d) = p0 (ix2 r d))
      ∧ (k.val = 64 + r.val → View.canon (bands p0 p1 p2 p3) (ix2 k d) = p1 (ix2 r d))
      ∧ (k.val = 128 + r.val → View.canon (bands p0 p1 p2 p3) (ix2 k d) = p2 (ix2 r d))
      ∧ (k.val = 192 + r.val → View.canon (bands p0 p1 p2 p3) (ix2 k d) = p3 (ix2 r d)) := by
  unfold bands
  refine ⟨fun h => ?_, fun h => ?_, fun h => ?_, fun h => ?_⟩
  · rw [band_miss 192 _ _ _ _ (by omega), band_miss 128 _ _ _ _ (by omega), band_miss 64 _ _ _ _ (by omega), band_hit 0 _ _ _ _ r h]
  · rw [band_miss 192 _ _ _ _ (by omega), band_miss 128 _ _ _ _ (by omega), band_hit 64 _ _ _ _ r h]
  · rw [band_miss 192 _ _ _ _ (by omega), band_hit 128 _ _ _ _ r h]
  · rw [band_hit 192 _ _ _ _ r h]

/-- A chunk's rows of the result, head by head. -/
theorem rows_at (lb : Vec F S1x512 .f32) (ng : Vec F S1x128 .f32) (q z v g : Vec F S64x512 .f32)
    (s0 s1 s2 s3 : Vec F S1x128x128 .f32) (r : Fin 64) (e : Fin 128) :
    rows lb ng q z v g s0 s1 s2 s3 (ix2 r (cl 0 (by omega) e)) = rowsH 0 slices_S64x512_o0_0_S64x128 lb ng q z v g s0 (ix2 r e)
    ∧ rows lb ng q z v g s0 s1 s2 s3 (ix2 r (cl 128 (by omega) e)) = rowsH 128 slices_S64x512_o0_128_S64x128 lb ng q z v g s1 (ix2 r e)
    ∧ rows lb ng q z v g s0 s1 s2 s3 (ix2 r (cl 256 (by omega) e)) = rowsH 256 slices_S64x512_o0_256_S64x128 lb ng q z v g s2 (ix2 r e)
    ∧ rows lb ng q z v g s0 s1 s2 s3 (ix2 r (cl 384 (by omega) e)) = rowsH 384 slices_S64x512_o0_384_S64x128 lb ng q z v g s3 (ix2 r e) := by
  unfold rows
  refine ⟨?_, ?_, ?_, ?_⟩
  all_goals
    generalize rowsH 0 slices_S64x512_o0_0_S64x128 lb ng q z v g s0 = a0
    generalize rowsH 128 slices_S64x512_o0_128_S64x128 lb ng q z v g s1 = a1
    generalize rowsH 256 slices_S64x512_o0_256_S64x128 lb ng q z v g s2 = a2
    generalize rowsH 384 slices_S64x512_o0_384_S64x128 lb ng q z v g s3 = a3
    pointwise [cl]
  · rw [dif_neg (by omega), dif_neg (by omega), dif_pos (by omega)]
    exact congrArg (fun k => a2 (ix2 r k)) (Fin.ext (by show 256 + e.val - 128 - 128 = e.val; omega))
  · rw [dif_neg (by omega), dif_neg (by omega), dif_neg (by omega)]
    exact congrArg (fun k => a3 (ix2 r k)) (Fin.ext (by show 384 + e.val - 128 - 128 - 128 = e.val; omega))

end Cert.KernelIdeal.Hgrn

end
-- ==== Proof.HgrnKernel.lean ====
module

public import proofs.«01_k».proof.Proof.HgrnBody
public import proofs.«01_k».proof.Proof.HgrnRead
public import proofs.«01_k».proof.Proof.Gen.KernelIdeal.Value

/-! # What the kernel leaves: the recurrence over the chunks of every batch -/

@[expose] public section
set_option maxRecDepth 16384
noncomputable section
namespace Cert.KernelIdeal.Hgrn
open Idealize.ShloMosaic Idealize.ShloMosaic.TcCoe
open Idealize.SL Idealize.SL.RA Idealize.SL.BI
open Cert.KernelIdeal Cert.KernelIdeal.Gen Cert.KernelIdeal.Value Cert.Hgrn

variable (m : (ℓ : Loc nD τ sig) → Buf (Elt Ideal) ℓ)

/-- The projection, the lower bounds and the norm's weights, by their indices. -/
def xOf (c : Dev nD) (i : Fin 65536) (j : Fin 5376) : EReal := m ((c : Thread nD τ).loc main_arg0) (ix2 i j)
def lbOf (c : Dev nD) (d : Fin 512) : EReal := m ((c : Thread nD τ).loc main_arg1) (ix2 (0 : Fin 1) d)
def ngOf (c : Dev nD) (d : Fin 128) : EReal := m ((c : Thread nD τ).loc main_arg2) (ix2 (0 : Fin 1) d)

/-- A row and a column of the projection as batch, chunk, row of the chunk, head and column of the head. -/
theorem at0_part (c : Dev nD) (t : Fin cfg0.N) (base h j o : Nat) (ho : o = h * 128) (hh : h < 4) (hj : j < 4) (hb : base ≤ 2560)
    (r : Fin 64) (d : Fin 128) (i k : Nat) (hi : i < 65536) (hk : k < 5376) (ei : i = 256 * t.val + (64 * j + r.val)) (ek : k = base + (o + d.val)) :
    at0 m c i k hi hk = part (xOf m c) base (t.val / 8) h (4 * (t.val % 8) + j) r d := by
  have ht := t_lt t
  unfold at0 part xOf
  have e1 : (⟨i, hi⟩ : Fin 65536) = rowOf (t.val / 8) (4 * (t.val % 8) + j) r := Fin.ext (by show i = (_ * 2048 + _ * 64 + _) % 65536; omega)
  have e2 : (⟨k, hk⟩ : Fin 5376) = colOf base h d := Fin.ext (by show k = (base + h * 128 + _) % 5376; omega)
  rw [e1, e2]

section chunk
variable (c : Dev nD) (t : Fin cfg0.N) (h j o : Nat) (ho : o = h * 128) (hh : h < 4) (hj : j < 4) (ho' : o + 128 ≤ 512)
  (ch : Vec Ideal S256x512 .f32 → Vec Ideal S64x512 .f32)
  (hch : ∀ (x : Vec Ideal S256x512 .f32) (r : Fin 64) (d : Fin 512), ch x (ix2 r d) = x (ix2 (⟨64 * j + r.val, by omega⟩ : Fin 256) d))
include ho hh hj ho' hch

theorem q_part (r : Fin 64) (d : Fin 128) : ch (X0_0 m c t) (ix2 r (cl o ho' d)) = part (xOf m c) 1024 (t.val / 8) h (4 * (t.val % 8) + j) r d := by
  rw [hch, X0_at]; exact at0_part m c t 1024 h j o ho hh hj (by omega) r d _ _ _ _ rfl rfl
theorem z_part (r : Fin 64) (d : Fin 128) : ch (X0_1 m c t) (ix2 r (cl o ho' d)) = part (xOf m c) 1536 (t.val / 8) h (4 * (t.val % 8) + j) r d := by
  rw [hch, X1_at]; exact at0_part m c t 1536 h j o ho hh hj (by omega) r d _ _ _ _ rfl rfl
theorem v_part (r : Fin 64) (d : Fin 128) : ch (X0_2 m c t) (ix2 r (cl o ho' d)) = part (xOf m c) 2048 (t.val / 8) h (4 * (t.val % 8) + j) r d := by
  rw [hch, X2_at]; exact at0_part m c t 2048 h j o ho hh hj (by omega) r d _ _ _ _ rfl rfl
theorem g_part (r : Fin 64) (d : Fin 128) : ch (X0_3 m c t) (ix2 r (cl o ho' d)) = part (xOf m c) 2560 (t.val / 8) h (4 * (t.val % 8) + j) r d := by
  rw [hch, X3_at]; exact at0_part m c t 2560 h j o ho hh hj (by omega) r d _ _ _ _ rfl rfl
omit hch in
theorem lb_col (d : Fin 128) : iblk m c 4 t (ix2 (0 : Fin 1) (cl o ho' d)) = lbOf m c (col5 h d) := by
  rw [X4_at]
  exact congrArg (fun k => m ((c : Thread nD τ).loc main_arg1) (ix2 (0 : Fin 1) k)) (Fin.ext (by show o + d.val = (h * 128 + d.val) % 512; omega))

/-- One chunk of a head: from the state before it to the state after it. -/
theorem st_next (hs : S64x512.Slices ![0, o] S64x128) (hs1 : S1x512.Slices ![0, o] S1x128) (st : Vec Ideal S1x128x128 .f32)
    (hst : ∀ e d : Fin 128, st (ix3 (0 : Fin 1) e d) = St (xOf m c) (lbOf m c) (t.val / 8) h (4 * (t.val % 8) + j) e d) (e d : Fin 128) :
    stepH o hs hs1 (iblk m c 4 t) (ch (X0_1 m c t)) (ch (X0_2 m c t)) st (ix3 (0 : Fin 1) e d)
      = St (xOf m c) (lbOf m c) (t.val / 8) h (4 * (t.val % 8) + j + 1) e d := by
  rw [stepH_at o ho' hs hs1]
  simp only [z_part m c t h j o ho hh hj ho' ch hch, v_part m c t h j o ho hh hj ho' ch hch, lb_col m c t h j o ho hh hj ho', hst]
  rfl

/-- One chunk of a head: its rows of the result. -/
theorem row_res (hs : S64x512.Slices ![0, o] S64x128) (st : Vec Ideal S1x128x128 .f32)
    (hst : ∀ e d : Fin 128, st (ix3 (0 : Fin 1) e d) = St (xOf m c) (lbOf m c) (t.val / 8) h (4 * (t.val % 8) + j) e d) (r : Fin 64) (e : Fin 128) :
    rowsH o hs (iblk m c 4 t) (iblk m c 5 t) (ch (X0_0 m c t)) (ch (X0_1 m c t)) (ch (X0_2 m c t)) (ch (X0_3 m c t)) st (ix2 r e)
      = res (xOf m c) (lbOf m c) (ngOf m c) (t.val / 8) h (4 * (t.val % 8) + j) r e := by
  rw [rowsH_at o ho' hs]
  simp only [q_part m c t h j o ho hh hj ho' ch hch, z_part m c t h j o ho hh hj ho' ch hch, v_part m c t h j o ho hh hj ho' ch hch,
    g_part m c t h j o ho hh hj ho' ch hch, lb_col m c t h j o ho hh hj ho', hst, X5_at]
  rfl
end chunk

theorem c0 (x : Vec Ideal S256x512 .f32) (r : Fin 64) (d : Fin 512) : ch0 x (ix2 r d) = x (ix2 (⟨64 * 0 + r.val, by omega⟩ : Fin 256) d) := ch0_at x r d
theorem c1 (x : Vec Ideal S256x512 .f32) (r : Fin 64) (d : Fin 512) : ch1 x (ix2 r d) = x (ix2 (⟨64 * 1 + r.val, by omega⟩ : Fin 256) d) := ch1_at x r d
theorem c2 (x : Vec Ideal S256x512 .f32) (r : Fin 64) (d : Fin 512) : ch2 x (ix2 r d) = x (ix2 (⟨64 * 2 + r.val, by omega⟩ : Fin 256) d) := ch2_at x r d
theorem c3 (x : Vec Ideal S256x512 .f32) (r : Fin 64) (d : Fin 512) : ch3 x (ix2 r d) = x (ix2 (⟨64 * 3 + r.val, by omega⟩ : Fin 256) d) := ch3_at x r d

section head
variable (c : Dev nD) (t : Fin cfg0.N) (h o : Nat) (ho : o = h * 128) (hh : h < 4)
  (hs : S64x512.Slices ![0, o] S64x128) (hs1 : S1x512.Slices ![0, o] S1x128) (st : Vec Ideal S1x128x128 .f32)
  (hst : ∀ e d : Fin 128, st (ix3 (0 : Fin 1) e d) = St (xOf m c) (lbOf m c) (t.val / 8) h (4 * (t.val % 8)) e d)
include ho hh hst

/-- The state of a head after each of the four chunks of a point. -/
theorem st1_St (e d : Fin 128) : st1 o hs hs1 (iblk m c 4 t) (X0_1 m c t) (X0_2 m c t) st (ix3 (0 : Fin 1) e d)
    = St (xOf m c) (lbOf m c) (t.val / 8) h (4 * (t.val % 8) + 1) e d :=
  st_next m c t h 0 o ho hh (by omega) (by omega) ch0 c0 hs hs1 st hst e d
theorem st2_St (e d : Fin 128) : st2 o hs hs1 (iblk m c 4 t) (X0_1 m c t) (X0_2 m c t) st (ix3 (0 : Fin 1) e d)
    = St (xOf m c) (lbOf m c) (t.val / 8) h (4 * (t.val % 8) + 2) e d :=
  st_next m c t h 1 o ho hh (by omega) (by omega) ch1 c1 hs hs1 _ (st1_St m c t h o ho hh hs hs1 st hst) e d
theorem st3_St (e d : Fin 128) : st3 o hs hs1 (iblk m c 4 t) (X0_1 m c t) (X0_2 m c t) st (ix3 (0 : Fin 1) e d)
    = St (xOf m c) (lbOf m c) (t.val / 8) h (4 * (t.val % 8) + 3) e d :=
  st_next m c t h 2 o ho hh (by omega) (by omega) ch2 c2 hs hs1 _ (st2_St m c t h o ho hh hs hs1 st hst) e d
theorem st4_St (e d : Fin 128) : st4 o hs hs1 (iblk m c 4 t) (X0_1 m c t) (X0_2 m c t) st (ix3 (0 : Fin 1) e d)
    = St (xOf m c) (lbOf m c) (t.val / 8) h (4 * (t.val % 8) + 4) e d :=
  st_next m c t h 3 o ho hh (by omega) (by omega) ch3 c3 hs hs1 _ (st3_St m c t h o ho hh hs hs1 st hst) e d
end head

section point
variable (c : Dev nD) (t : Fin cfg0.N) (s : Vec Ideal S4x128x128 .f32)
  (hst : ∀ (h : Fin 4) (e d : Fin 128), s (ix3 h e d) = St (xOf m c) (lbOf m c) (t.val / 8) h.val (4 * (t.val % 8)) e d)
include hst

theorem hd0_St (e d : Fin 128) : hd0 s (ix3 (0 : Fin 1) e d) = St (xOf m c) (lbOf m c) (t.val / 8) 0 (4 * (t.val % 8)) e d := (hd0_at s e d).trans (hst 0 e d)
theorem hd1_St (e d : Fin 128) : hd1 s (ix3 (0 : Fin 1) e d) = St (xOf m c) (lbOf m c) (t.val / 8) 1 (4 * (t.val % 8)) e d := (hd1_at s e d).trans (hst 1 e d)
theorem hd2_St (e d : Fin 128) : hd2 s (ix3 (0 : Fin 1) e d) = St (xOf m c) (lbOf m c) (t.val / 8) 2 (4 * (t.val % 8)) e d := (hd2_at s e d).trans (hst 2 e d)
theorem hd3_St (e d : Fin 128) : hd3 s (ix3 (0 : Fin 1) e d) = St (xOf m c) (lbOf m c) (t.val / 8) 3 (4 * (t.val % 8)) e d := (hd3_at s e d).trans (hst 3 e d)

/-- The scratch after a point holds every head's state after the point's four chunks. -/
theorem planes_St (L : List (View.Piece (Elt Ideal) S4x128x128 .f32)) (h : Fin 4) (e d : Fin 128) :
    View.canon (planes
      (st4 0 slices_S64x512_o0_0_S64x128 slices_S1x512_o0_0_S1x128 (iblk m c 4 t) (X0_1 m c t) (X0_2 m c t) (hd0 s))
      (st4 128 slices_S64x512_o0_128_S64x128 slices_S1x512_o0_128_S1x128 (iblk m c 4 t) (X0_1 m c t) (X0_2 m c t) (hd1 s))
      (st4 256 slices_S64x512_o0_256_S64x128 slices_S1x512_o0_256_S1x128 (iblk m c 4 t) (X0_1 m c t) (X0_2 m c t) (hd2 s))
      (st4 384 slices_S64x512_o0_384_S64x128 slices_S1x512_o0_384_S1x128 (iblk m c 4 t) (X0_1 m c t) (X0_2 m c t) (hd3 s)) L) (ix3 h e d)
      = St (xOf m c) (lbOf m c) (t.val / 8) h.val (4 * (t.val % 8) + 4) e d := by
  match h with
  | 0 => exact (planes_at _ _ _ _ L e d).1.trans (st4_St m c t 0 0 rfl (by omega) _ _ _ (hd0_St m c t s hst) e d)
  | 1 => exact (planes_at _ _ _ _ L e d).2.1.trans (st4_St m c t 1 128 rfl (by omega) _ _ _ (hd1_St m c t s hst) e d)
  | 2 => exact (planes_at _ _ _ _ L e d).2.2.1.trans (st4_St m c t 2 256 rfl (by omega) _ _ _ (hd2_St m c t s hst) e d)
  | 3 => exact (planes_at _ _ _ _ L e d).2.2.2.trans (st4_St m c t 3 384 rfl (by omega) _ _ _ (hd3_St m c t s hst) e d)

/-- A row of chunk 0 of a point. -/
theorem rows0_res (h : Fin 4) (r : Fin 64) (e : Fin 128) :
    (rows (iblk m c 4 t) (iblk m c 5 t) (ch0 (X0_0 m c t)) (ch0 (X0_1 m c t)) (ch0 (X0_2 m c t)) (ch0 (X0_3 m c t))
        (hd0 s)
        (hd1 s)
        (hd2 s)
        (hd3 s)) (ix2 r (cl (128 * h.val) (by omega) e))
      = res (xOf m c) (lbOf m c) (ngOf m c) (t.val / 8) h.val (4 * (t.val % 8) + 0) r e := by
  match h with
  | 0 => exact (rows_at _ _ _ _ _ _ _ _ _ _ r e).1.trans (row_res m c t 0 0 0 rfl (by omega) (by omega) (by omega) ch0 c0 _ _ (hd0_St m c t s hst) r e)
  | 1 => exact (rows_at _ _ _ _ _ _ _ _ _ _ r e).2.1.trans (row_res m c t 1 0 128 rfl (by omega) (by omega) (by omega) ch0 c0 _ _ (hd1_St m c t s hst) r e)
  | 2 => exact (rows_at _ _ _ _ _ _ _ _ _ _ r e).2.2.1.trans (row_res m c t 2 0 256 rfl (by omega) (by omega) (by omega) ch0 c0 _ _ (hd2_St m c t s hst) r e)
  | 3 => exact (rows_at _ _ _ _ _ _ _ _ _ _ r e).2.2.2.trans (row_res m c t 3 0 384 rfl (by omega) (by omega) (by omega) ch0 c0 _ _ (hd3_St m c t s hst) r e)
/-- A row of chunk 1 of a point. -/
theorem rows1_res (h : Fin 4) (r : Fin 64) (e : Fin 128) :
    (rows (iblk m c 4 t) (iblk m c 5 t) (ch1 (X0_0 m c t)) (ch1 (X0_1 m c t)) (ch1 (X0_2 m c t)) (ch1 (X0_3 m c t))
        (st1 0 slices_S64x512_o0_0_S64x128 slices_S1x512_o0_0_S1x128 (iblk m c 4 t) (X0_1 m c t) (X0_2 m c t) (hd0 s))
        (st1 128 slices_S64x512_o0_128_S64x128 slices_S1x512_o0_128_S1x128 (iblk m c 4 t) (X0_1 m c t) (X0_2 m c t) (hd1 s))
        (st1 256 slices_S64x512_o0_256_S64x128 slices_S1x512_o0_256_S1x128 (iblk m c 4 t) (X0_1 m c t) (X0_2 m c t) (hd2 s))
        (st1 384 slices_S64x512_o0_384_S64x128 slices_S1x512_o0_384_S1x128 (iblk m c 4 t) (X0_1 m c t) (X0_2 m c t) (hd3 s))) (ix2 r (cl (128 * h.val) (by omega) e))
      = res (xOf m c) (lbOf m c) (ngOf m c) (t.val / 8) h.val (4 * (t.val % 8) + 1) r e := by
  match h with
  | 0 => exact (rows_at _ _ _ _ _ _ _ _ _ _ r e).1.trans (row_res m c t 0 1 0 rfl (by omega) (by omega) (by omega) ch1 c1 _ _ (st1_St m c t 0 0 rfl (by omega) _ _ _ (hd0_St m c t s hst)) r e)
  | 1 => exact (rows_at _ _ _ _ _ _ _ _ _ _ r e).2.1.trans (row_res m c t 1 1 128 rfl (by omega) (by omega) (by omega) ch1 c1 _ _ (st1_St m c t 1 128 rfl (by omega) _ _ _ (hd1_St m c t s hst)) r e)
  | 2 => exact (rows_at _ _ _ _ _ _ _ _ _ _ r e).2.2.1.trans (row_res m c t 2 1 256 rfl (by omega) (by omega) (by omega) ch1 c1 _ _ (st1_St m c t 2 256 rfl (by omega) _ _ _ (hd2_St m c t s hst)) r e)
  | 3 => exact (rows_at _ _ _ _ _ _ _ _ _ _ r e).2.2.2.trans (row_res m c t 3 1 384 rfl (by omega) (by omega) (by omega) ch1 c1 _ _ (st1_St m c t 3 384 rfl (by omega) _ _ _ (hd3_St m c t s hst)) r e)
/-- A row of chunk 2 of a point. -/
theorem rows2_res (h : Fin 4) (r : Fin 64) (e : Fin 128) :
    (rows (iblk m c 4 t) (iblk m c 5 t) (ch2 (X0_0 m c t)) (ch2 (X0_1 m c t)) (ch2 (X0_2 m c t)) (ch2 (X0_3 m c t))
        (st2 0 slices_S64x512_o0_0_S64x128 slices_S1x512_o0_0_S1x128 (iblk m c 4 t) (X0_1 m c t) (X0_2 m c t) (hd0 s))
        (st2 128 slices_S64x512_o0_128_S64x128 slices_S1x512_o0_128_S1x128 (iblk m c 4 t) (X0_1 m c t) (X0_2 m c t) (hd1 s))
        (st2 256 slices_S64x512_o0_256_S64x128 slices_S1x512_o0_256_S1x128 (iblk m c 4 t) (X0_1 m c t) (X0_2 m c t) (hd2 s))
        (st2 384 slices_S64x512_o0_384_S64x128 slices_S1x512_o0_384_S1x128 (iblk m c 4 t) (X0_1 m c t) (X0_2 m c t) (hd3 s))) (ix2 r (cl (128 * h.val) (by omega) e))
      = res (xOf m c) (lbOf m c) (ngOf m c) (t.val / 8) h.val (4 * (t.val % 8) + 2) r e := by
  match h with
  | 0 => exact (rows_at _ _ _ _ _ _ _ _ _ _ r e).1.trans (row_res m c t 0 2 0 rfl (by omega) (by omega) (by omega) ch2 c2 _ _ (st2_St m c t 0 0 rfl (by omega) _ _ _ (hd0_St m c t s hst)) r e)
  | 1 => exact (rows_at _ _ _ _ _ _ _ _ _ _ r e).2.1.trans (row_res m c t 1 2 128 rfl (by omega) (by omega) (by omega) ch2 c2 _ _ (st2_St m c t 1 128 rfl (by omega) _ _ _ (hd1_St m c t s hst)) r e)
  | 2 => exact (rows_at _ _ _ _ _ _ _ _ _ _ r e).2.2.1.trans (row_res m c t 2 2 256 rfl (by omega) (by omega) (by omega) ch2 c2 _ _ (st2_St m c t 2 256 rfl (by omega) _ _ _ (hd2_St m c t s hst)) r e)
  | 3 => exact (rows_at _ _ _ _ _ _ _ _ _ _ r e).2.2.2.trans (row_res m c t 3 2 384 rfl (by omega) (by omega) (by omega) ch2 c2 _ _ (st2_St m c t 3 384 rfl (by omega) _ _ _ (hd3_St m c t s hst)) r e)
/-- A row of chunk 3 of a point. -/
theorem rows3_res (h : Fin 4) (r : Fin 64) (e : Fin 128) :
    (rows (iblk m c 4 t) (iblk m c 5 t) (ch3 (X0_0 m c t)) (ch3 (X0_1 m c t)) (ch3 (X0_2 m c t)) (ch3 (X0_3 m c t))
        (st3 0 slices_S64x512_o0_0_S64x128 slices_S1x512_o0_0_S1x128 (iblk m c 4 t) (X0_1 m c t) (X0_2 m c t) (hd0 s))
        (st3 128 slices_S64x512_o0_128_S64x128 slices_S1x512_o0_128_S1x128 (iblk m c 4 t) (X0_1 m c t) (X0_2 m c t) (hd1 s))
        (st3 256 slices_S64x512_o0_256_S64x128 slices_S1x512_o0_256_S1x128 (iblk m c 4 t) (X0_1 m c t) (X0_2 m c t) (hd2 s))
        (st3 384 slices_S64x512_o0_384_S64x128 slices_S1x512_o0_384_S1x128 (iblk m c 4 t) (X0_1 m c t) (X0_2 m c t) (hd3 s))) (ix2 r (cl (128 * h.val) (by omega) e))
      = res (xOf m c) (lbOf m c) (ngOf m c) (t.val / 8) h.val (4 * (t.val % 8) + 3) r e := by
  match h with
  | 0 => exact (rows_at _ _ _ _ _ _ _ _ _ _ r e).1.trans (row_res m c t 0 3 0 rfl (by omega) (by omega) (by omega) ch3 c3 _ _ (st3_St m c t 0 0 rfl (by omega) _ _ _ (hd0_St m c t s hst)) r e)
  | 1 => exact (rows_at _ _ _ _ _ _ _ _ _ _ r e).2.1.trans (row_res m c t 1 3 128 rfl (by omega) (by omega) (by omega) ch3 c3 _ _ (st3_St m c t 1 128 rfl (by omega) _ _ _ (hd1_St m c t s hst)) r e)
  | 2 => exact (rows_at _ _ _ _ _ _ _ _ _ _ r e).2.2.1.trans (row_res m c t 2 3 256 rfl (by omega) (by omega) (by omega) ch3 c3 _ _ (st3_St m c t 2 256 rfl (by omega) _ _ _ (hd2_St m c t s hst)) r e)
  | 3 => exact (rows_at _ _ _ _ _ _ _ _ _ _ r e).2.2.2.trans (row_res m c t 3 3 384 rfl (by omega) (by omega) (by omega) ch3 c3 _ _ (st3_St m c t 3 384 rfl (by omega) _ _ _ (hd3_St m c t s hst)) r e)

/-- The block of the result after a point holds its rows. -/
theorem bands_res (k : Fin 256) (j : Fin 4) (r : Fin 64) (hk : k.val = 64 * j.val + r.val) (h : Fin 4) (e : Fin 128) :
    View.canon (bands
      (rows (iblk m c 4 t) (iblk m c 5 t) (ch0 (X0_0 m c t)) (ch0 (X0_1 m c t)) (ch0 (X0_2 m c t)) (ch0 (X0_3 m c t))
        (hd0 s)
        (hd1 s)
        (hd2 s)
        (hd3 s))
      (rows (iblk m c 4 t) (iblk m c 5 t) (ch1 (X0_0 m c t)) (ch1 (X0_1 m c t)) (ch1 (X0_2 m c t)) (ch1 (X0_3 m c t))
        (st1 0 slices_S64x512_o0_0_S64x128 slices_S1x512_o0_0_S1x128 (iblk m c 4 t) (X0_1 m c t) (X0_2 m c t) (hd0 s))
        (st1 128 slices_S64x512_o0_128_S64x128 slices_S1x512_o0_128_S1x128 (iblk m c 4 t) (X0_1 m c t) (X0_2 m c t) (hd1 s))
        (st1 256 slices_S64x512_o0_256_S64x128 slices_S1x512_o0_256_S1x128 (iblk m c 4 t) (X0_1 m c t) (X0_2 m c t) (hd2 s))
        (st1 384 slices_S64x512_o0_384_S64x128 slices_S1x512_o0_384_S1x128 (iblk m c 4 t) (X0_1 m c t) (X0_2 m c t) (hd3 s)))
      (rows (iblk m c 4 t) (iblk m c 5 t) (ch2 (X0_0 m c t)) (ch2 (X0_1 m c t)) (ch2 (X0_2 m c t)) (ch2 (X0_3 m c t))
        (st2 0 slices_S64x512_o0_0_S64x128 slices_S1x512_o0_0_S1x128 (iblk m c 4 t) (X0_1 m c t) (X0_2 m c t) (hd0 s))
        (st2 128 slices_S64x512_o0_128_S64x128 slices_S1x512_o0_128_S1x128 (iblk m c 4 t) (X0_1 m c t) (X0_2 m c t) (hd1 s))
        (st2 256 slices_S64x512_o0_256_S64x128 slices_S1x512_o0_256_S1x128 (iblk m c 4 t) (X0_1 m c t) (X0_2 m c t) (hd2 s))
        (st2 384 slices_S64x512_o0_384_S64x128 slices_S1x512_o0_384_S1x128 (iblk m c 4 t) (X0_1 m c t) (X0_2 m c t) (hd3 s)))
      (rows (iblk m c 4 t) (iblk m c 5 t) (ch3 (X0_0 m c t)) (ch3 (X0_1 m c t)) (ch3 (X0_2 m c t)) (ch3 (X0_3 m c t))
        (st3 0 slices_S64x512_o0_0_S64x128 slices_S1x512_o0_0_S1x128 (iblk m c 4 t) (X0_1 m c t) (X0_2 m c t) (hd0 s))
        (st3 128 slices_S64x512_o0_128_S64x128 slices_S1x512_o0_128_S1x128 (iblk m c 4 t) (X0_1 m c t) (X0_2 m c t) (hd1 s))
        (st3 256 slices_S64x512_o0_256_S64x128 slices_S1x512_o0_256_S1x128 (iblk m c 4 t) (X0_1 m c t) (X0_2 m c t) (hd2 s))
        (st3 384 slices_S64x512_o0_384_S64x128 slices_S1x512_o0_384_S1x128 (iblk m c 4 t) (X0_1 m c t) (X0_2 m c t) (hd3 s)))) (ix2 k (cl (128 * h.val) (by omega) e))
      = res (xOf m c) (lbOf m c) (ngOf m c) (t.val / 8) h.val (4 * (t.val % 8) + j.val) r e := by
  match j, hk with
  | 0, hk => exact ((bands_at _ _ _ _ k r _).1 hk).trans (rows0_res m c t s hst h r e)
  | 1, hk => exact ((bands_at _ _ _ _ k r _).2.1 hk).trans (rows1_res m c t s hst h r e)
  | 2, hk => exact ((bands_at _ _ _ _ k r _).2.2.1 hk).trans (rows2_res m c t s hst h r e)
  | 3, hk => exact ((bands_at _ _ _ _ k r _).2.2.2 hk).trans (rows3_res m c t s hst h r e)
end point

/-- A batch starts from the zero state. -/
theorem zero_St (c : Dev nD) (t : Fin cfg0.N) (ht : t.val % 8 = 0) (h : Fin 4) (e d : Fin 128) :
    (zeroSt : Vec Ideal S4x128x128 .f32) (ix3 h e d) = St (xOf m c) (lbOf m c) (t.val / 8) h.val (4 * (t.val % 8)) e d := by
  rw [ht]
  unfold zeroSt St
  pointwise [zeroSt]

/-- The scratch and the block of the result after a point that starts a batch. -/
theorem point_A (c : Dev nD) (t : Fin cfg0.N) (h0 : t.val % 8 = 0) :
    (∀ (h : Fin 4) (e d : Fin 128), (outsAt0 m c t.val t.isLt).2 (ix3 h e d) = St (xOf m c) (lbOf m c) (t.val / 8) h.val (4 * (t.val % 8) + 4) e d)
    ∧ ∀ (k : Fin 256) (j : Fin 4) (r : Fin 64) (_ : k.val = 64 * j.val + r.val) (h : Fin 4) (e : Fin 128),
      (outsAt0 m c t.val t.isLt).1 (ix2 k (cl (128 * h.val) (by omega) e))
        = res (xOf m c) (lbOf m c) (ngOf m c) (t.val / 8) h.val (4 * (t.val % 8) + j.val) r e := by
  have z := zero_St m c t h0
  rw [outsAt0_A m c t h0]
  dsimp only
  rw [sout_A, out_A]
  exact ⟨fun h e d => planes_St m c t zeroSt z _ h e d, fun k j r hk h e => bands_res m c t zeroSt z k j r hk h e⟩

/-- The scratch and the block of the result after a point inside a batch, from the scratch before it. -/
theorem point_B (c : Dev nD) (t : Fin cfg0.N) (h0 : ¬t.val % 8 = 0) (hp : t.val - 1 < cfg0.N)
    (z : ∀ (h : Fin 4) (e d : Fin 128), (outsAt0 m c (t.val - 1) hp).2 (ix3 h e d) = St (xOf m c) (lbOf m c) (t.val / 8) h.val (4 * (t.val % 8)) e d) :
    (∀ (h : Fin 4) (e d : Fin 128), (outsAt0 m c t.val t.isLt).2 (ix3 h e d) = St (xOf m c) (lbOf m c) (t.val / 8) h.val (4 * (t.val % 8) + 4) e d)
    ∧ ∀ (k : Fin 256) (j : Fin 4) (r : Fin 64) (_ : k.val = 64 * j.val + r.val) (h : Fin 4) (e : Fin 128),
      (outsAt0 m c t.val t.isLt).1 (ix2 k (cl (128 * h.val) (by omega) e))
        = res (xOf m c) (lbOf m c) (ngOf m c) (t.val / 8) h.val (4 * (t.val % 8) + j.val) r e := by
  rw [outsAt0_B m c t h0]
  dsimp only
  rw [sout_B, out_B]
  exact ⟨fun h e d => planes_St m c t _ z _ h e d, fun k j r hk h e => bands_res m c t _ z k j r hk h e⟩

/-- What the scratch and the block of the result hold after every point. -/
theorem after_point (c : Dev nD) : ∀ (n : Nat) (hn : n < cfg0.N),
    (∀ (h : Fin 4) (e d : Fin 128), (outsAt0 m c n hn).2 (ix3 h e d) = St (xOf m c) (lbOf m c) (n / 8) h.val (4 * (n % 8) + 4) e d)
    ∧ ∀ (k : Fin 256) (j : Fin 4) (r : Fin 64) (_ : k.val = 64 * j.val + r.val) (h : Fin 4) (e : Fin 128),
      (outsAt0 m c n hn).1 (ix2 k (cl (128 * h.val) (by omega) e)) = res (xOf m c) (lbOf m c) (ngOf m c) (n / 8) h.val (4 * (n % 8) + j.val) r e := by
  intro n
  induction n with
  | zero => intro hn; exact point_A m c ⟨0, hn⟩ rfl
  | succ n ih =>
    intro hn
    by_cases h0 : (n + 1) % 8 = 0
    · exact point_A m c ⟨n + 1, hn⟩ h0
    · refine point_B m c ⟨n + 1, hn⟩ h0 (Nat.lt_of_succ_lt hn) fun h e d => ?_
      refine ((ih (Nat.lt_of_succ_lt hn)).1 h e d).trans ?_
      show St _ _ (n / 8) _ (4 * (n % 8) + 4) e d = St _ _ ((n + 1) / 8) _ (4 * ((n + 1) % 8)) e d
      rw [show n / 8 = (n + 1) / 8 from by omega, show 4 * (n % 8) + 4 = 4 * ((n + 1) % 8) from by omega]

/-- What the kernel's result ends holding, at a row and a column. -/
theorem G6_res (c : Dev nD) (b n : Nat) (hb : b < 32) (hn : n < 32) (t : Fin 64) (h : Fin 4) (e : Fin 128) :
    G6 m c (ix2 (rowOf b n t) (cl (128 * h.val) (by omega) e)) = res (xOf m c) (lbOf m c) (ngOf m c) b h.val n t e := by
  have hr : (rowOf b n t).val = b * 2048 + n * 64 + t.val := by show (b * 2048 + n * 64 + t.val) % 65536 = _; omega
  generalize rowOf b n t = row at hr
  have hp : pt6Of (ix2 row (cl (128 * h.val) (by omega) e)) = b * 8 + n / 4 := by
    show 1 * (row.val / 256 - 0) + 1 * ((128 * h.val + e.val) / 512 - 0) = _
    omega
  have hN : b * 8 + n / 4 < cfg0.N := lt_of_lt_of_eq (by omega) N_0.symm
  unfold G6
  rw [dif_pos (hp ▸ hN), fold0_congr m c _ _ (b * 8 + n / 4) (by omega) hp, ← outsAt0_sweep m c _ hN]
  have hl : loc6Of (ix2 row (cl (128 * h.val) (by omega) e)) = ix2 (⟨row.val % 256, Nat.mod_lt _ (by decide)⟩ : Fin 256) (cl (128 * h.val) (by omega) e) :=
    funext fun a => Fin.ext (by
      match a with
      | ⟨0, _⟩ => rfl
      | ⟨1, _⟩ => show (128 * h.val + e.val) % 512 = 128 * h.val + e.val; omega)
  rw [hl, (after_point m c _ hN).2 _ ⟨n % 4, by omega⟩ t (by show row.val % 256 = 64 * (n % 4) + t.val; omega) h e]
  rw [show (b * 8 + n / 4) / 8 = b from by omega]
  exact congrArg (fun q => res _ _ _ b h.val q t e) (by show 4 * ((b * 8 + n / 4) % 8) + n % 4 = n; omega)

end Cert.KernelIdeal.Hgrn

end
-- ==== Proof.HgrnCumsum.lean ====
module

public import proofs.«01_k».proof.Proof.Gen.ReferenceIdeal
public import Idealize.ShloMosaic.Lib.Pointwise

/-! # The running sum of a chunk's rows, at an index -/

@[expose] public section
noncomputable section
namespace Cert.ReferenceIdeal.Hgrn
open Idealize.ShloMosaic Idealize.ShloMosaic.TcCoe
open Cert.ReferenceIdeal Cert.ReferenceIdeal.Gen

/-- A left fold of additions is the start plus the sum. -/
theorem foldl_add_sum {N : Nat} (g : Fin N → EReal) (v : EReal) :
    (List.finRange N).foldl (fun r n => r + g n) v = v + ∑ n, g n := by
  have key : ∀ (l : List (Fin N)) (v : EReal), l.foldl (fun r n => r + g n) v = v + (l.map g).sum := fun l => by
    induction l with
    | nil => intro v; simp
    | cons a l ih => intro v; rw [List.foldl_cons, ih, List.map_cons, List.sum_cons, add_assoc]
  rw [key, ← List.ofFn_eq_map, List.sum_ofFn]

/-- The window's sum, in the order that a shift by the row gives. -/
theorem window_shift (f : Fin 64 → EReal) (t : Fin 64) :
    (∑ w : Fin 64, if h : 63 ≤ t.val + w.val then f ⟨t.val + w.val - 63, by omega⟩ else 0) = ∑ s : Fin 64, if s ≤ t then f s else 0 := by
  refine Fintype.sum_equiv (Equiv.addRight (t + 1)) _ _ fun w => ?_
  have e : ((Equiv.addRight (t + 1)) w).val = (w.val + (t.val + 1)) % 64 := by
    show (w + (t + 1)).val = _
    rw [Fin.val_add, Fin.val_add]
    show (w.val + (t.val + 1) % 64) % 64 = _
    omega
  split
  · rw [if_pos (Fin.le_def.mpr (by omega))]
    exact congrArg f (Fin.ext (by show t.val + w.val - 63 = _; omega))
  · rw [if_neg (fun h => by have := Fin.le_def.mp h; omega)]

/-- The reference's running sum down a chunk's 64 rows. -/
theorem cumsum_at (x : FVec Ideal S32x4x32x64x128 .f32) (init : FVec Ideal S_ .f32) (hinit : ∀ i, init i = 0)
    (h : S32x4x32x64x128.ReduceWindows ![1, 1, 1, 64, 1] ![1, 1, 1, 1, 1] ![0, 0, 0, 63, 0] ![0, 0, 0, 0, 0] S32x4x32x64x128) (hu : 0 < S_.numel)
    (b : Fin 32) (c : Fin 4) (n : Fin 32) (t : Fin 64) (d : Fin 128) :
    Host.reduceWindowAdd ![1, 1, 1, 64, 1] ![1, 1, 1, 1, 1] ![0, 0, 0, 63, 0] ![0, 0, 0, 0, 0] x init h hu (ix5 b c n t d)
      = ∑ s : Fin 64, if s ≤ t then x (ix5 b c n s d) else 0 := by
  refine (foldl_add_sum _ _).trans ?_
  simp only [hinit, zero_add]
  refine (Equiv.sum_comp (Shape.rowMajor ⟨5, ![1, 1, 1, 64, 1]⟩).symm (fun w : (⟨5, ![1, 1, 1, 64, 1]⟩ : Shape).Idx =>
    if hin : ∀ a : Fin 5, (![0, 0, 0, 63, 0] : Fin 5 → Nat) a ≤ (ix5 b c n t d a).val * (![1, 1, 1, 1, 1] : Fin 5 → Nat) a + (w a).val
        ∧ (ix5 b c n t d a).val * (![1, 1, 1, 1, 1] : Fin 5 → Nat) a + (w a).val - (![0, 0, 0, 63, 0] : Fin 5 → Nat) a < S32x4x32x64x128.size a
      then x (fun a => ⟨(ix5 b c n t d a).val * (![1, 1, 1, 1, 1] : Fin 5 → Nat) a + (w a).val - (![0, 0, 0, 63, 0] : Fin 5 → Nat) a, (hin a).2⟩) else (0 : EReal))).trans ?_
  refine (sum_idx5 (n0 := 1) (n1 := 1) (n2 := 1) (n3 := 64) (n4 := 1) _).trans ?_
  simp only [Fintype.sum_unique]
  refine (Finset.sum_congr rfl fun w _ => ?_).trans (window_shift (fun s => x (ix5 b c n s d)) t)
  have hb := b.isLt
  have hc := c.isLt
  have hn := n.isLt
  have ht := t.isLt
  have hd := d.isLt
  have hw := w.isLt
  split
  · next hin =>
    have h3 : 63 ≤ t.val * 1 + w.val ∧ t.val * 1 + w.val - 63 < 64 := hin 3
    rw [dif_pos (by omega)]
    refine congrArg x (funext fun a => Fin.ext ?_)
    match a with
    | ⟨0, _⟩ => show b.val * 1 + 0 - 0 = b.val; omega
    | ⟨1, _⟩ => show c.val * 1 + 0 - 0 = c.val; omega
    | ⟨2, _⟩ => show n.val * 1 + 0 - 0 = n.val; omega
    | ⟨3, _⟩ => show t.val * 1 + w.val - 63 = t.val + w.val - 63; omega
    | ⟨4, _⟩ => show d.val * 1 + 0 - 0 = d.val; omega
  · next hin =>
    rw [dif_neg fun hle => hin fun a => ?_]
    match a with
    | ⟨0, _⟩ => show 0 ≤ b.val * 1 + 0 ∧ b.val * 1 + 0 - 0 < 32; omega
    | ⟨1, _⟩ => show 0 ≤ c.val * 1 + 0 ∧ c.val * 1 + 0 - 0 < 4; omega
    | ⟨2, _⟩ => show 0 ≤ n.val * 1 + 0 ∧ n.val * 1 + 0 - 0 < 32; omega
    | ⟨3, _⟩ => show 63 ≤ t.val * 1 + w.val ∧ t.val * 1 + w.val - 63 < 64; omega
    | ⟨4, _⟩ => show 0 ≤ d.val * 1 + 0 ∧ d.val * 1 + 0 - 0 < 128; omega

end Cert.ReferenceIdeal.Hgrn

end
-- ==== Proof.HgrnRefModel.lean ====
module

public import proofs.«01_k».proof.Proof.HgrnCumsum
public import proofs.«01_k».proof.Proof.HgrnSpec

/-! # The reference's stages, as functions of whole arrays, and their entries -/

@[expose] public section
set_option maxRecDepth 16384
noncomputable section
namespace Cert.ReferenceIdeal.Hgrn
open Idealize.ShloMosaic Idealize.ShloMosaic.TcCoe
open Cert.ReferenceIdeal Cert.ReferenceIdeal.Gen Cert.Hgrn

abbrev A (s : Shape) := FVec Ideal s .f32

/-- The four groups of 512 columns, by batch, row, head and column of the head. -/
def rQ (x : A S65536x5376) : A S32x2048x4x128 := shapeCast S32x2048x4x128 (extractStridedSlice S65536x512 ![0, 1024] x slices_S65536x5376_S65536x512_0_1024) shapeCasts_S65536x512_S32x2048x4x128
def rZ (x : A S65536x5376) : A S32x2048x4x128 := shapeCast S32x2048x4x128 (extractStridedSlice S65536x512 ![0, 1536] x slices_S65536x5376_S65536x512_0_1536) shapeCasts_S65536x512_S32x2048x4x128
def rV (x : A S65536x5376) : A S32x2048x4x128 := shapeCast S32x2048x4x128 (extractStridedSlice S65536x512 ![0, 2048] x slices_S65536x5376_S65536x512_0_2048) shapeCasts_S65536x512_S32x2048x4x128
def rG (x : A S65536x5376) : A S32x2048x4x128 := shapeCast S32x2048x4x128 (extractStridedSlice S65536x512 ![0, 2560] x slices_S65536x5376_S65536x512_0_2560) shapeCasts_S65536x512_S32x2048x4x128

/-- The lower bounds, and one minus them, for every row. -/
def rLb (lb : A S1x512) : A S32x2048x4x128 :=
  broadcastInDim S32x2048x4x128 ![0, 1, 2, 3] bcast_S1x1x4x128_S32x2048x4x128_0_1_2_3 (broadcastInDim S1x1x4x128 ![2, 3] bcast_S4x128_S1x1x4x128_2_3 (shapeCast S4x128 lb shapeCasts_S1x512_S4x128))
def rOneLb (lb : A S1x512) : A S32x2048x4x128 :=
  broadcastInDim S32x2048x4x128 ![0, 1, 2, 3] bcast_S1x1x4x128_S32x2048x4x128_0_1_2_3 (broadcastInDim S1x1x4x128 ![2, 3] bcast_S4x128_S1x1x4x128_2_3
    (subf (broadcastInDim S4x128 ![] bcast_S_S4x128 (constant S_ .f32 0x3F800000#32)) (shapeCast S4x128 lb shapeCasts_S1x512_S4x128)))

/-- One over one plus the exponential of minus the operand. -/
def rSig (z : A S32x2048x4x128) : A S32x2048x4x128 :=
  Host.divf (broadcastInDim S32x2048x4x128 ![] bcast_S_S32x2048x4x128 (constant S_ .f32 0x3F800000#32))
    (addf (broadcastInDim S32x2048x4x128 ![] bcast_S_S32x2048x4x128 (constant S_ .f32 0x3F800000#32)) (Host.exp (Host.negf z)))

/-- The log gates and the keys. -/
def rLog (z : A S32x2048x4x128) (lb : A S1x512) : A S32x2048x4x128 := Host.log (addf (rLb lb) (mulf (rOneLb lb) (rSig z)))
def rK (z : A S32x2048x4x128) (lb : A S1x512) : A S32x2048x4x128 := mulf (rOneLb lb) (rSig (Host.negf z))

/-- By batch, head, chunk, row of the chunk and column of the head. -/
def chunked (y : A S32x2048x4x128) : A S32x4x32x64x128 :=
  transpose S32x4x32x64x128 [0, 3, 1, 2, 4] (shapeCast S32x32x64x4x128 y shapeCasts_S32x2048x4x128_S32x32x64x4x128) transposes_S32x32x64x4x128_S32x4x32x64x128_0_3_1_2_4

/-- The running sum down every chunk. -/
def rBc (l : A S32x4x32x64x128) : A S32x4x32x64x128 :=
  Host.reduceWindowAdd ![1, 1, 1, 64, 1] ![1, 1, 1, 1, 1] ![0, 0, 0, 63, 0] ![0, 0, 0, 0, 0] l (broadcastInDim S_ ![] bcast_S_S_ (constant (F := Ideal) S_ .f32 0x00000000#32))
    reduceWindows_S32x4x32x64x128_S32x4x32x64x128_w1s1p0_0_w1s1p0_0_w1s1p0_0_w64s1p63_0_w1s1p0_0 h_S_

def rMid (bc : A S32x4x32x64x128) : A S32x4x32x64x128 :=
  broadcastInDim S32x4x32x64x128 ![0, 1, 2, 3, 4] bcast_S32x4x32x1x128_S32x4x32x64x128_0_1_2_3_4
    (extractStridedSlice S32x4x32x1x128 ![0, 0, 0, 31, 0] bc slices_S32x4x32x64x128_S32x4x32x1x128_0_0_0_31_0)
def rLastRow (bc : A S32x4x32x64x128) : A S32x4x32x1x128 :=
  extractStridedSlice S32x4x32x1x128 ![0, 0, 0, 63, 0] bc slices_S32x4x32x64x128_S32x4x32x1x128_0_0_0_63_0
def rLast (bc : A S32x4x32x64x128) : A S32x4x32x64x128 :=
  broadcastInDim S32x4x32x64x128 ![0, 1, 2, 3, 4] bcast_S32x4x32x1x128_S32x4x32x64x128_0_1_2_3_4 (rLastRow bc)

def rQin (q bc : A S32x4x32x64x128) : A S32x4x32x64x128 := mulf q (Host.exp (subf bc (rMid bc)))
def rKin (k bc : A S32x4x32x64x128) : A S32x4x32x64x128 := mulf k (Host.exp (subf (rMid bc) bc))

/-- The one-bit mask of row at least column. -/
def rMask : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

/-- The scores, the masked scores, and what they make of the values. -/
def rScore (qi ki : A S32x4x32x64x128) : A S32x4x32x64x64 :=
  Host.dotGeneral dot_S32x4x32x64x128_S32x4x32x64x128_S32x4x32x64x64_4_4_3_3_012_012 none qi ki
def rMasked (s : A S32x4x32x64x64) : A S32x4x32x64x64 :=
  select (broadcastInDim S32x4x32x64x64 ![3, 4] bcast_S64x64_S32x4x32x64x64_3_4 rMask) s (broadcastInDim S32x4x32x64x64 ![] bcast_S_S32x4x32x64x64 (id (constant S_ .f32 0x00000000#32)))
def rIntra (s : A S32x4x32x64x64) (v : A S32x4x32x64x128) : A S32x4x32x64x128 :=
  Host.dotGeneral dot_S32x4x32x64x64_S32x4x32x64x128_S32x4x32x64x128_4_3_3_4_012_012 none s v

/-- What each chunk adds to the state, and what it keeps of it, chunk first. -/
def rDS (k bc v : A S32x4x32x64x128) : A S32x32x4x128x128 :=
  transpose S32x32x4x128x128 [2, 0, 1, 3, 4] (Host.dotGeneral dot_S32x4x32x64x128_S32x4x32x64x128_S32x4x32x128x128_3_3_4_4_012_012 none (mulf k (Host.exp (subf (rLast bc) bc))) v)
    transposes_S32x4x32x128x128_S32x32x4x128x128_2_0_1_3_4
def rDec (bc : A S32x4x32x64x128) : A S32x32x4x128 :=
  transpose S32x32x4x128 [2, 0, 1, 3] (Host.exp (shapeCast S32x4x32x128 (rLastRow bc) shapeCasts_S32x4x32x1x128_S32x4x32x128)) transposes_S32x4x32x128_S32x32x4x128_2_0_1_3

/-- The output before the normalisation, from the states before the chunks, chunk first. -/
def rOut (qc bc oi : A S32x4x32x64x128) (st : A S32x32x4x128x128) : A S32x2048x4x128 :=
  shapeCast S32x2048x4x128 (transpose S32x32x64x4x128 [0, 2, 3, 1, 4]
    (addf oi (Host.dotGeneral dot_S32x4x32x64x128_S32x4x32x128x128_S32x4x32x64x128_4_3_3_4_012_012 none (mulf qc (Host.exp bc))
      (transpose S32x4x32x128x128 [1, 2, 0, 3, 4] st transposes_S32x32x4x128x128_S32x4x32x128x128_1_2_0_3_4)))
    transposes_S32x4x32x64x128_S32x32x64x4x128_0_2_3_1_4) shapeCasts_S32x32x64x4x128_S32x2048x4x128

/-- The normalised, weighted and gated output. -/
def rGated (o g : A S32x2048x4x128) (ng : A S1x128) : A S65536x512 :=
  shapeCast S65536x512 (mulf (mulf (mulf (mulf o (broadcastInDim S32x2048x4x128 ![0, 1, 2, 3] bcast_S32x2048x4x1_S32x2048x4x128_0_1_2_3
    (Host.rsqrt (addf (Host.divf (broadcastInDim S32x2048x4x1 ![0, 1, 2] bcast_S32x2048x4_S32x2048x4x1_0_1_2
        (Host.reduceAdd (mulf o o) (constant S_ .f32 0x00000000#32) reducesTo_S32x2048x4x128_S32x2048x4_d3 h_S_))
      (broadcastInDim S32x2048x4x1 ![] bcast_S_S32x2048x4x1 (constant S_ .f32 0x43000000#32)))
      (broadcastInDim S32x2048x4x1 ![] bcast_S_S32x2048x4x1 (constant S_ .f32 0x358637BD#32))))))
    (broadcastInDim S32x2048x4x128 ![0, 1, 2, 3] bcast_S1x1x1x128_S32x2048x4x128_0_1_2_3 (broadcastInDim S1x1x1x128 ![3] bcast_S128_S1x1x1x128_3
      (shapeCast S128 ng shapeCasts_S1x128_S128)))) g) (rSig g)) shapeCasts_S32x2048x4x128_S65536x512

end Cert.ReferenceIdeal.Hgrn

end
-- ==== Proof.HgrnRefAt.lean ====
module

public import proofs.«01_k».proof.Proof.HgrnRefModel

/-! # The reference's stages against the specification -/

@[expose] public section
set_option maxRecDepth 16384
noncomputable section
namespace Cert.ReferenceIdeal.Hgrn
open Idealize.ShloMosaic Idealize.ShloMosaic.TcCoe
open Cert.ReferenceIdeal Cert.ReferenceIdeal.Gen Cert.Hgrn

section inputs
variable (x : A S65536x5376) (lb : A S1x512)

/-- The projection and the lower bounds by their indices. -/
def xf (i : Fin 65536) (j : Fin 5376) : EReal := x (ix2 i j)
def lf (d : Fin 512) : EReal := lb (ix2 (0 : Fin 1) d)

theorem entry_part (base : Nat) (hb : base ≤ 2560) (b : Fin 32) (h : Fin 4) (n : Fin 32) (t : Fin 64) (d : Fin 128)
    (i j : Nat) (hi : i < 65536) (hj : j < 5376) (ei : i = b.val * 2048 + (n.val * 64 + t.val)) (ej : j = base + (h.val * 128 + d.val)) :
    x (ix2 ⟨i, hi⟩ ⟨j, hj⟩) = part (xf x) base b.val h.val n.val t d := by
  unfold part xf
  have e1 : (⟨i, hi⟩ : Fin 65536) = rowOf b.val n.val t := Fin.ext (by show i = (_ * 2048 + _ * 64 + _) % 65536; omega)
  have e2 : (⟨j, hj⟩ : Fin 5376) = colOf base h.val d := Fin.ext (by show j = (base + h.val * 128 + _) % 5376; omega)
  rw [e1, e2]

variable (b : Fin 32) (h : Fin 4) (n : Fin 32) (t : Fin 64) (d : Fin 128)

theorem q_chunk : chunked (rQ x) (ix5 b h n t d) = part (xf x) 1024 b.val h.val n.val t d := by
  pointwise [chunked, rQ]
  exact entry_part x 1024 (by omega) b h n t d _ _ _ _ (by omega) (by omega)
theorem v_chunk : chunked (rV x) (ix5 b h n t d) = part (xf x) 2048 b.val h.val n.val t d := by
  pointwise [chunked, rV]
  exact entry_part x 2048 (by omega) b h n t d _ _ _ _ (by omega) (by omega)
theorem g_row (s : Fin 2048) (hs : s.val = n.val * 64 + t.val) : rG x (ix4 b s h d) = part (xf x) 2560 b.val h.val n.val t d := by
  pointwise [rG]
  exact entry_part x 2560 (by omega) b h n t d _ _ _ _ (by omega) (by omega)

theorem lb_entry (j : Nat) (hj : j < 512) (ej : j = h.val * 128 + d.val) : lb (ix2 (0 : Fin 1) ⟨j, hj⟩) = lf lb (col5 h.val d) := by
  unfold lf
  exact congrArg (fun k => lb (ix2 (0 : Fin 1) k)) (Fin.ext (by show j = (h.val * 128 + d.val) % 512; omega))

theorem log_chunk : chunked (rLog (rZ x) lb) (ix5 b h n t d) = logGate (lf lb (col5 h.val d)) (part (xf x) 1536 b.val h.val n.val t d) := by
  pointwise [chunked, rLog, rLb, rOneLb, rSig, rZ]
  rw [entry_part x 1536 (by omega) b h n t d _ _ _ _ (by omega) (by omega), lb_entry lb h d _ _ (by omega)]
  rfl
theorem k_chunk : chunked (rK (rZ x) lb) (ix5 b h n t d) = keyGate (lf lb (col5 h.val d)) (part (xf x) 1536 b.val h.val n.val t d) := by
  pointwise [chunked, rK, rOneLb, rSig, rZ]
  rw [entry_part x 1536 (by omega) b h n t d _ _ _ _ (by omega) (by omega), lb_entry lb h d _ _ (by omega)]
  rfl

theorem bc_chunk : rBc (chunked (rLog (rZ x) lb)) (ix5 b h n t d) = cum (fun d => lf lb (col5 h.val d)) (part (xf x) 1536 b.val h.val n.val) t d := by
  unfold rBc
  rw [cumsum_at _ _ (fun i => by pointwise [])]
  unfold cum
  simp only [log_chunk]
end inputs

/-- The mask's bit. -/
theorem mask_bit (t s : Fin 64) (y : EReal) :
    Scalar.select (Scalar.select (IntOp.cmpi CmpIPredicate.sge (IntOp.addi (BitVec.ofNat 32 t.val) 0#32) (BitVec.ofNat 32 s.val)) 1#1 0#1) y 0 = if s ≤ t then y else 0 := by
  have e : IntOp.addi (BitVec.ofNat 32 t.val) 0#32 = BitVec.ofNat 32 t.val := BitVec.add_zero _
  rw [e, cmp_ge]
  split <;> simp [Scalar.select]

/-- What a chunk's own rows contribute. -/
theorem intra_at (q k v bc : A S32x4x32x64x128) (b : Fin 32) (h : Fin 4) (n : Fin 32) (t : Fin 64) (e : Fin 128) :
    rIntra (rMasked (rScore (rQin q bc) (rKin k bc))) v (ix5 b h n t e)
      = ∑ s : Fin 64, if s ≤ t then (∑ d : Fin 128, q (ix5 b h n t d) * Ideal.exp (bc (ix5 b h n t d) - bc (ix5 b h n 31 d)) *
          (k (ix5 b h n s d) * Ideal.exp (bc (ix5 b h n 31 d) - bc (ix5 b h n s d)))) * v (ix5 b h n s e) else 0 := by
  pointwise [rIntra, rMasked, rScore, rQin, rKin, rMid, rMask, dot_S32x4x32x64x64_S32x4x32x64x128_S32x4x32x64x128_4_3_3_4_012_012, dot_S32x4x32x64x128_S32x4x32x64x128_S32x4x32x64x64_4_4_3_3_012_012]
  refine Finset.sum_congr rfl fun s _ => ?_
  rw [show (id (constant (F := Ideal) S_ FTy.f32 0#32) ix0 : EReal) = 0 from by show constant (F := Ideal) S_ FTy.f32 0#32 ix0 = 0; pointwise [], mask_bit]
  split <;> simp

theorem dS_at (k v bc : A S32x4x32x64x128) (b : Fin 32) (h : Fin 4) (n : Fin 32) (e d : Fin 128) :
    rDS k bc v (ix5 n b h d e) = ∑ s : Fin 64, v (ix5 b h n s e) * (k (ix5 b h n s d) * Ideal.exp (bc (ix5 b h n 63 d) - bc (ix5 b h n s d))) := by
  pointwise [rDS, rLast, rLastRow, dot_S32x4x32x64x128_S32x4x32x64x128_S32x4x32x128x128_3_3_4_4_012_012]
  exact Finset.sum_congr rfl fun s _ => mul_comm _ _
theorem dec_at (bc : A S32x4x32x64x128) (b : Fin 32) (h : Fin 4) (n : Fin 32) (d : Fin 128) :
    rDec bc (ix4 n b h d) = Ideal.exp (bc (ix5 b h n 63 d)) := by
  pointwise [rDec, rLastRow]

section result
variable (x : A S65536x5376) (lb : A S1x512) (ng : A S1x128)

/-- The four arrays that the loop and the result are made of. -/
def aQ : A S32x4x32x64x128 := chunked (rQ x)
def aK : A S32x4x32x64x128 := chunked (rK (rZ x) lb)
def aV : A S32x4x32x64x128 := chunked (rV x)
def aB : A S32x4x32x64x128 := rBc (chunked (rLog (rZ x) lb))
def aI : A S32x4x32x64x128 := rIntra (rMasked (rScore (rQin (aQ x) (aB x lb)) (rKin (aK x lb) (aB x lb)))) (aV x)

/-- The state after a chunk, from the state before it. -/
theorem step_St (b : Fin 32) (h : Fin 4) (n : Fin 32) (e d : Fin 128) (S : EReal) (hS : S = St (xf x) (lf lb) b.val h.val n.val e d) :
    rDec (aB x lb) (ix4 n b h d) * S + rDS (aK x lb) (aB x lb) (aV x) (ix5 n b h d e) = St (xf x) (lf lb) b.val h.val (n.val + 1) e d := by
  rw [dS_at, dec_at, hS]
  simp only [aB, aK, aV, bc_chunk, k_chunk, v_chunk]
  rfl

/-- The output before the normalisation. -/
theorem out_pre (st : A S32x32x4x128x128) (hst : ∀ (n b : Fin 32) (h : Fin 4) (d e : Fin 128), st (ix5 n b h d e) = St (xf x) (lf lb) b.val h.val n.val e d)
    (b : Fin 32) (s : Fin 2048) (h : Fin 4) (n : Fin 32) (t : Fin 64) (hs : s.val = n.val * 64 + t.val) (e : Fin 128) :
    rOut (aQ x) (aB x lb) (aI x lb) st (ix4 b s h e)
      = pre (fun d => lf lb (col5 h.val d)) (part (xf x) 1024 b.val h.val n.val) (part (xf x) 1536 b.val h.val n.val) (part (xf x) 2048 b.val h.val n.val)
          (St (xf x) (lf lb) b.val h.val n.val) t e := by
  have e1 : ∀ (p : s.val / 64 < 32), (⟨s.val / 64, p⟩ : Fin 32) = n := fun p => Fin.ext (by show s.val / 64 = n.val; omega)
  have e2 : ∀ (p : s.val % 64 < 64), (⟨s.val % 64, p⟩ : Fin 64) = t := fun p => Fin.ext (by show s.val % 64 = t.val; omega)
  pointwise [rOut, dot_S32x4x32x64x128_S32x4x32x128x128_S32x4x32x64x128_4_3_3_4_012_012]
  simp only [e1, e2, hst]
  unfold aI
  rw [intra_at]
  simp only [aB, aK, aV, aQ, bc_chunk, k_chunk, v_chunk, q_chunk]
  rfl

/-- The reference's result. -/
theorem result_res (st : A S32x32x4x128x128) (hst : ∀ (n b : Fin 32) (h : Fin 4) (d e : Fin 128), st (ix5 n b h d e) = St (xf x) (lf lb) b.val h.val n.val e d)
    (b : Fin 32) (h : Fin 4) (n : Fin 32) (t : Fin 64) (e : Fin 128) (c : Fin 512) (hc : c.val = 128 * h.val + e.val) :
    rGated (rOut (aQ x) (aB x lb) (aI x lb) st) (rG x) ng (ix2 (rowOf b.val n.val t) c)
      = res (xf x) (lf lb) (fun d => ng (ix2 (0 : Fin 1) d)) b.val h.val n.val t e := by
  have hr : (rowOf b.val n.val t).val = b.val * 2048 + n.val * 64 + t.val := by show (b.val * 2048 + n.val * 64 + t.val) % 65536 = _; omega
  generalize rowOf b.val n.val t = row at hr
  have e1 : ∀ (p : row.val / 2048 < 32), (⟨row.val / 2048, p⟩ : Fin 32) = b := fun p => Fin.ext (by show row.val / 2048 = b.val; omega)
  have e3 : ∀ (p : c.val / 128 < 4), (⟨c.val / 128, p⟩ : Fin 4) = h := fun p => Fin.ext (by show c.val / 128 = h.val; omega)
  have e4 : ∀ (p : c.val % 128 < 128), (⟨c.val % 128, p⟩ : Fin 128) = e := fun p => Fin.ext (by show c.val % 128 = e.val; omega)
  have hs : row.val % 2048 = n.val * 64 + t.val := by omega
  pointwise [rGated, rSig]
  simp only [e1, e3, e4]
  simp only [out_pre x lb st hst b ⟨row.val % 2048, Nat.mod_lt _ (by decide)⟩ h n t hs, g_row x b h n t e ⟨row.val % 2048, Nat.mod_lt _ (by decide)⟩ hs]
  rfl
end result

end Cert.ReferenceIdeal.Hgrn

end
-- ==== Proof.HgrnRef.lean ====
module
public import proofs.«01_k».proof.Proof.HgrnRefAt
public import proofs.«01_k».proof.Proof.Gen.ReferenceIdeal.Run
public import Idealize.ShloMosaic.Lib.DynamicIndex
public import Idealize.ShloMosaic.Lib.WordCmp
public import Idealize.ShloMosaic.Lib.StableHlo.RunRead

/-! # The reference: its loop over the chunks and its result -/

@[expose] public section
set_option maxRecDepth 16384
noncomputable section
namespace Cert.ReferenceIdeal.Hgrn
open Idealize.ShloMosaic Idealize.ShloMosaic.TcCoe
open Cert.ReferenceIdeal Cert.ReferenceIdeal.Gen Cert.Hgrn
open Cert.ReferenceIdeal.Value
open Idealize.ShloMosaic.StableHlo

/-- The slice starts, as numbers, and that the blocks fit. -/
theorem starts4 (k : Fin 32) (a : Fin 4) :
    (((![fun _ => BitVec.ofNat 32 k.val, constantI S_ 32 0#32, constantI S_ 32 0#32, constantI S_ 32 0#32] : Fin 4 → IVec S_ 32)) a (Shape.Idx.first h_S_)).toInt
      = ((![k.val, 0, 0, 0] : Fin 4 → Nat) a : Int) := by
  fin_cases a
  · exact toInt_ofNat_of_lt (by omega)
  all_goals rfl
theorem starts5 (k : Fin 32) (a : Fin 5) :
    (((![fun _ => BitVec.ofNat 32 k.val, constantI S_ 32 0#32, constantI S_ 32 0#32, constantI S_ 32 0#32, constantI S_ 32 0#32] : Fin 5 → IVec S_ 32)) a (Shape.Idx.first h_S_)).toInt
      = ((![k.val, 0, 0, 0, 0] : Fin 5 → Nat) a : Int) := by
  fin_cases a
  · exact toInt_ofNat_of_lt (by omega)
  all_goals rfl
theorem fits4 (k : Fin 32) : S32x32x4x128.Slices (![k.val, 0, 0, 0] : Fin 4 → Nat) S1x32x4x128 :=
  ⟨rfl, fun a => by fin_cases a; (· show k.val + 1 ≤ 32; omega); all_goals exact Nat.le_of_eq (Nat.zero_add _)⟩
theorem fits5 (k : Fin 32) : S32x32x4x128x128.Slices (![k.val, 0, 0, 0, 0] : Fin 5 → Nat) S1x32x4x128x128 :=
  ⟨rfl, fun a => by fin_cases a; (· show k.val + 1 ≤ 32; omega); all_goals exact Nat.le_of_eq (Nat.zero_add _)⟩

/-- One trip on the running state. -/
theorem state_step (D : A S32x32x4x128) (DS : A S32x32x4x128x128) (R : A S32x4x128x128) (V0 : Valuation τ sig (Elt Ideal)) (k b : Fin 32) (h : Fin 4) (d e : Fin 128)
    (hc : V0 (Proc.devRef .tc main_v71_2) = fun _ => BitVec.ofNat 32 k.val)
    (hD : V0 (Proc.devRef .tc main_v71_1) = D) (hDS : V0 (Proc.devRef .tc main_v71_0) = DS) (hR : V0 (Proc.devRef .tc main_v71_3) = R) :
    (step_main_v71_3 V0 : A S32x4x128x128) (ix4 b h d e) = D (ix4 k b h d) * R (ix4 b h d e) + DS (ix5 k b h d e) := by
  unfold step_main_v71_3
  rw [hc, hD, hDS, hR]
  have e1 := Host.dynamicSlice_eq_extractStridedSlice S1x32x4x128 D _ _ sliceFits_S32x32x4x128_S1x32x4x128 (fits4 k) (starts4 k)
  have e2 := Host.dynamicSlice_eq_extractStridedSlice S1x32x4x128x128 DS _ _ sliceFits_S32x32x4x128x128_S1x32x4x128x128 (fits5 k) (starts5 k)
  show addf (mulf (broadcastInDim S32x4x128x128 ![0, 1, 2, 3] _ (broadcastInDim S32x4x128x1 ![0, 1, 2] _ (shapeCast S32x4x128 (Host.dynamicSlice S1x32x4x128 D _ _) _))) R)
    (shapeCast S32x4x128x128 (Host.dynamicSlice S1x32x4x128x128 DS _ _) _) _ = _
  erw [e1, e2]
  pointwise []

/-- One trip on the stored states. -/
theorem store_step (R : A S32x4x128x128) (O : A S32x32x4x128x128) (V0 : Valuation τ sig (Elt Ideal)) (k n b : Fin 32) (h : Fin 4) (d e : Fin 128) (hc : V0 (Proc.devRef .tc main_v71_2) = fun _ => BitVec.ofNat 32 k.val)
    (hR : V0 (Proc.devRef .tc main_v71_3) = R) (hO : V0 (Proc.devRef .tc main_v71_4) = O) :
    (step_main_v71_4 V0 : A S32x32x4x128x128) (ix5 n b h d e) = if n = k then R (ix4 b h d e) else O (ix5 n b h d e) := by
  unfold step_main_v71_4
  rw [hc, hR, hO]
  have e1 := WordCmp.dynamicUpdateSlice_eq_update O (broadcastInDim S1x32x4x128x128 ![1, 2, 3, 4] bcast_S32x4x128x128_S1x32x4x128x128_1_2_3_4 R) _ updateFits_S32x32x4x128x128_S1x32x4x128x128 _ (fits5 k) (starts5 k)
  show Host.dynamicUpdateSlice O _ _ _ _ = _
  erw [e1]
  by_cases hn : n = k
  · subst hn
    pointwise []
    exact dif_pos ⟨le_refl _, Nat.lt_succ_self _⟩
  · pointwise []
    rw [if_neg hn, dif_neg (fun hh => hn (Fin.ext (by omega)))]

section entry
variable (V : Valuation τ sig (Elt Ideal))

/-- The buffers after the stretches before the loop. -/
abbrev pre0 : Valuation τ sig (Elt Ideal) :=
  StableHlo.after hostOps0_6 (StableHlo.after hostOps0_5 (StableHlo.after hostOps0_4 (StableHlo.after hostOps0_3 (StableHlo.after hostOps0_2 (StableHlo.after hostOps0_1 (StableHlo.after hostOps0 V))))))

theorem pre_v7 : pre0 V (Proc.devRef .tc main_v7) = rG (V (Proc.devRef .tc main_arg0)) := by
  after_reads_simp
  rfl
theorem pre_v37 : pre0 V (Proc.devRef .tc main_v37) = aQ (V (Proc.devRef .tc main_arg0)) := by
  after_reads_simp
  rfl
theorem pre_v44 : pre0 V (Proc.devRef .tc main_v44) = aB (V (Proc.devRef .tc main_arg0)) (V (Proc.devRef .tc main_arg1)) := by
  after_reads_simp
  rfl
theorem pre_v58 : pre0 V (Proc.devRef .tc main_v58) = aI (V (Proc.devRef .tc main_arg0)) (V (Proc.devRef .tc main_arg1)) := by
  after_reads_simp
  rfl
theorem pre_ds : pre0 V (Proc.devRef .tc main_v71_0) = rDS (aK (V (Proc.devRef .tc main_arg0)) (V (Proc.devRef .tc main_arg1)))
    (aB (V (Proc.devRef .tc main_arg0)) (V (Proc.devRef .tc main_arg1))) (aV (V (Proc.devRef .tc main_arg0))) := by
  after_reads_simp
  rfl
theorem pre_dec : pre0 V (Proc.devRef .tc main_v71_1) = rDec (aB (V (Proc.devRef .tc main_arg0)) (V (Proc.devRef .tc main_arg1))) := by
  after_reads_simp
  rfl
theorem pre_state (b : Fin 32) (h : Fin 4) (d e : Fin 128) : (pre0 V (Proc.devRef .tc main_v71_3) : A S32x4x128x128) (ix4 b h d e) = (0 : EReal) := by
  after_reads_simp
  show broadcastInDim S32x4x128x128 ![] bcast_S_S32x4x128x128 (constant (F := Ideal) S_ FTy.f32 0#32) (ix4 b h d e) = 0
  pointwise []
end entry

section loop
variable (m : (ℓ : Loc nD τ sig) → Buf (Elt Ideal) ℓ) (c : Dev nD)

/-- The reference's arguments. -/
abbrev x0 : A S65536x5376 := m ((c.tc : Thread nD τ).loc main_arg0)
abbrev l0 : A S1x512 := m ((c.tc : Thread nD τ).loc main_arg1)
abbrev g0 : A S1x128 := m ((c.tc : Thread nD τ).loc main_arg2)

theorem entry_eq : entryContents preI m c = pre0 (launchContents m c) := rfl

/-- A buffer that no stretch of the loop writes keeps its entry contents. -/
theorem atK_keep (r : Ref sig .tc) (h0 : r ∉ condOps_W) (h1 : r ∉ while0Ops0_W) (h2 : r ∉ while0Ops0_1_W) (h3 : r ∉ while0Ops0_2_W)
    (h4 : r ∉ while0Ops0_3_W) (h5 : r ∉ while0Ops0_4_W) : ∀ k, atK m k c (Proc.devRef .tc r) = pre0 (launchContents m c) (Proc.devRef .tc r)
  | 0 => rfl
  | k + 1 => by
    rw [show atK m (k + 1) c = StableHlo.afterL bodyI (StableHlo.after condOps (atK m k c)) from rfl]
    simp only [StableHlo.afterL_cons, StableHlo.afterL_nil]
    rw [StableHlo.after_of_writes_sub _ _ while0Ops0_4_writes h5, StableHlo.after_of_writes_sub _ _ while0Ops0_3_writes h4,
      StableHlo.after_of_writes_sub _ _ while0Ops0_2_writes h3, StableHlo.after_of_writes_sub _ _ while0Ops0_1_writes h2,
      StableHlo.after_of_writes_sub _ _ while0Ops0_writes h1, StableHlo.after_of_writes_sub _ _ condOps_writes h0]
    exact atK_keep r h0 h1 h2 h3 h4 h5 k

theorem atK_step (k : Nat) (j : Ref sig .tc) (hj : j ∈ carriedRefs) : atK m (k + 1) c (Proc.devRef .tc j) = STEP (atK m k c) (Proc.devRef .tc j) :=
  trip_agree (atK m k c) j hj

theorem iv_word (k : Nat) : Scf.iv 0#32 1#32 k = BitVec.ofNat 32 k := by
  unfold Scf.iv; simp

/-- The running state before chunk `k`. -/
theorem state_at : ∀ (k : Nat) (_ : k ≤ 32) (b : Fin 32) (h : Fin 4) (d e : Fin 128),
    (atK m k c (Proc.devRef .tc main_v71_3) : A S32x4x128x128) (ix4 b h d e) = St (xf (x0 m c)) (lf (l0 m c)) b.val h.val k e d
  | 0, _, b, h, d, e => pre_state (launchContents m c) b h d e
  | k + 1, hk, b, h, d, e => by
    rw [atK_step m c k main_v71_3 (by decide), STEP_main_v71_3]
    rw [state_step _ _ _ (atK m k c) ⟨k, hk⟩ b h d e ((atK_ctr m c k).trans (funext fun _ => iv_word k))
      ((atK_keep m c main_v71_1 (by decide) (by decide) (by decide) (by decide) (by decide) (by decide) k).trans (pre_dec _))
      ((atK_keep m c main_v71_0 (by decide) (by decide) (by decide) (by decide) (by decide) (by decide) k).trans (pre_ds _)) rfl]
    exact step_St (x0 m c) (l0 m c) b h ⟨k, hk⟩ e d _ (state_at k (by omega) b h d e)

/-- The stored states of the chunks already run. -/
theorem store_at : ∀ (k : Nat) (_ : k ≤ 32) (n b : Fin 32) (_ : n.val < k) (h : Fin 4) (d e : Fin 128),
    (atK m k c (Proc.devRef .tc main_v71_4) : A S32x32x4x128x128) (ix5 n b h d e) = St (xf (x0 m c)) (lf (l0 m c)) b.val h.val n.val e d
  | 0, _, n, b, hn, h, d, e => absurd hn (Nat.not_lt_zero _)
  | k + 1, hk, n, b, hn, h, d, e => by
    rw [atK_step m c k main_v71_4 (by decide), STEP_main_v71_4]
    rw [store_step _ _ (atK m k c) ⟨k, hk⟩ n b h d e ((atK_ctr m c k).trans (funext fun _ => iv_word k)) rfl rfl]
    by_cases e1 : n = ⟨k, hk⟩
    · rw [if_pos e1, e1]
      exact state_at m c k (by omega) b h d e
    · rw [if_neg e1]
      refine store_at k (by omega) n b ?_ h d e
      have : n.val ≠ k := fun hh => e1 (Fin.ext hh)
      omega

/-- The result buffer after the last stretch. -/
theorem post_v101 (V : Valuation τ sig (Elt Ideal)) : StableHlo.after hostOps0_7 (StableHlo.after condOps V) (Proc.devRef .tc main_v101)
    = rGated (rOut (V (Proc.devRef .tc main_v37)) (V (Proc.devRef .tc main_v44)) (V (Proc.devRef .tc main_v58)) (V (Proc.devRef .tc main_v71_4)))
        (V (Proc.devRef .tc main_v7)) (V (Proc.devRef .tc main_arg2)) := by
  after_reads_simp
  rfl

theorem pre_arg (V : Valuation τ sig (Elt Ideal)) : pre0 V (Proc.devRef .tc main_arg2) = V (Proc.devRef .tc main_arg2) := by
  after_reads_simp

/-- The reference's result, entry by entry. -/
theorem final_res (b : Fin 32) (h : Fin 4) (n : Fin 32) (t : Fin 64) (e : Fin 128) (j : Fin 512) (hj : j.val = 128 * h.val + e.val) :
    (finalContents condOps preI bodyI postI 32 m c (Proc.devRef .tc main_v101) : A S65536x512) (ix2 (rowOf b.val n.val t) j)
      = res (xf (x0 m c)) (lf (l0 m c)) (fun d => g0 m c (ix2 (0 : Fin 1) d)) b.val h.val n.val t e := by
  rw [show finalContents condOps preI bodyI postI 32 m c = StableHlo.after hostOps0_7 (StableHlo.after condOps (atK m 32 c)) from rfl]
  rw [post_v101,
    (atK_keep m c main_v7 (by decide) (by decide) (by decide) (by decide) (by decide) (by decide) 32).trans (pre_v7 _),
    (atK_keep m c main_v37 (by decide) (by decide) (by decide) (by decide) (by decide) (by decide) 32).trans (pre_v37 _),
    (atK_keep m c main_v44 (by decide) (by decide) (by decide) (by decide) (by decide) (by decide) 32).trans (pre_v44 _),
    (atK_keep m c main_v58 (by decide) (by decide) (by decide) (by decide) (by decide) (by decide) 32).trans (pre_v58 _),
    (atK_keep m c main_arg2 (by decide) (by decide) (by decide) (by decide) (by decide) (by decide) 32).trans (pre_arg _)]
  exact result_res (x0 m c) (l0 m c) (g0 m c) _ (fun n b h d e => store_at m c 32 (le_refl _) n b n.isLt h d e) b h n t e j hj
end loop

end Cert.ReferenceIdeal.Hgrn

end
-- ==== Proof.Hgrn.lean ====
module

public import proofs.«01_k».proof.Defs
public import proofs.«01_k».proof.Proof.HgrnKernel
public import proofs.«01_k».proof.Proof.HgrnRef
public import proofs.«01_k».proof.Proof.Gen.Kernel.Frame
public import proofs.«01_k».proof.Proof.Gen.KernelIdeal.Frame
public import Idealize.ShloMosaic.Lib.Quiescent

/-! # The recurrence's claims -/

@[expose] public section
set_option maxRecDepth 16384
noncomputable section

namespace Cert.ReferenceIdeal.Hgrn
open Idealize.ShloMosaic Idealize.ShloMosaic.TcCoe Idealize.SL.Sem
open Cert.ReferenceIdeal Cert.ReferenceIdeal.Gen Cert.Hgrn
open Cert.ReferenceIdeal.Value
open Idealize.ShloMosaic.StableHlo

variable (m : (ℓ : Loc nD τ sig) → Buf (Elt Ideal) ℓ) (ρ : Dev nD → PrngReg)

section args
variable (V : Valuation τ sig (Elt Ideal))
theorem pre_a0 : pre0 V (Proc.devRef .tc main_arg0) = V (Proc.devRef .tc main_arg0) := by after_reads_simp
theorem pre_a1 : pre0 V (Proc.devRef .tc main_arg1) = V (Proc.devRef .tc main_arg1) := by after_reads_simp
theorem post_a0 : after hostOps0_7 (after condOps V) (Proc.devRef .tc main_arg0) = V (Proc.devRef .tc main_arg0) := by after_reads_simp
theorem post_a1 : after hostOps0_7 (after condOps V) (Proc.devRef .tc main_arg1) = V (Proc.devRef .tc main_arg1) := by after_reads_simp
theorem post_a2 : after hostOps0_7 (after condOps V) (Proc.devRef .tc main_arg2) = V (Proc.devRef .tc main_arg2) := by after_reads_simp
end args

/-- The reference's run: its result is the fold's, its arguments end unchanged. -/
theorem run : θ_run (defs (F := Ideal)) (onTc (τ := τ) (main (F := Ideal))) ⟨m, fun _ => 0, ρ⟩ fun r => ∀ c : Dev nD,
    r.2.mem ((c.tc : Thread nD τ).loc main_v101) = finalContents condOps preI bodyI postI 32 m c (Proc.devRef .tc main_v101)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun r h c => ⟨h c main_v101 rfl,
    (h c main_arg0 rfl).trans ((post_a0 (atK m 32 c)).trans
      ((atK_keep m c main_arg0 (by decide) (by decide) (by decide) (by decide) (by decide) (by decide) 32).trans (pre_a0 _))),
    (h c main_arg1 rfl).trans ((post_a1 (atK m 32 c)).trans
      ((atK_keep m c main_arg1 (by decide) (by decide) (by decide) (by decide) (by decide) (by decide) 32).trans (pre_a1 _))),
    (h c main_arg2 rfl).trans ((post_a2 (atK m 32 c)).trans
      ((atK_keep m c main_arg2 (by decide) (by decide) (by decide) (by decide) (by decide) (by decide) 32).trans (pre_arg _)))⟩)
    (run_fold m ρ)

end Cert.ReferenceIdeal.Hgrn

namespace Cert.Proof.Hgrn
open Idealize.ShloMosaic Idealize.ShloMosaic.TcCoe Idealize.SL.Sem Cert.Hgrn

theorem frame_p : Cert.quiescent_Kernel := fun m ρ _ => Cert.Kernel.Gen.frame m ρ
theorem frame_pi : Cert.quiescent_KernelIdeal := fun m ρ _ => Cert.KernelIdeal.Gen.frame m ρ
/-- The reference declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Hgrn.run m ρ)

/-- The kernel's result is the reference's at every row and column. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Hgrn.x0 m' c = m ((c.tc : Thread Cert.KernelIdeal.nD Cert.KernelIdeal.τ).loc Cert.KernelIdeal.main_arg0))
    (h1 : Cert.ReferenceIdeal.Hgrn.l0 m' c = m ((c.tc : Thread Cert.KernelIdeal.nD Cert.KernelIdeal.τ).loc Cert.KernelIdeal.main_arg1))
    (h2 : Cert.ReferenceIdeal.Hgrn.g0 m' c = m ((c.tc : Thread Cert.KernelIdeal.nD Cert.KernelIdeal.τ).loc Cert.KernelIdeal.main_arg2))
    (row : Fin 65536) (col : Fin 512) :
    (StableHlo.finalContents Cert.ReferenceIdeal.Value.condOps Cert.ReferenceIdeal.Value.preI Cert.ReferenceIdeal.Value.bodyI Cert.ReferenceIdeal.Value.postI 32 m' c
      (Proc.devRef .tc Cert.ReferenceIdeal.main_v101) : FVec Ideal Cert.ReferenceIdeal.S65536x512 .f32) (ix2 row col) = Cert.KernelIdeal.Value.G6 m c (ix2 row col) := by
  have er : row = rowOf (row.val / 2048) (row.val % 2048 / 64) ⟨row.val % 64, Nat.mod_lt _ (by decide)⟩ :=
    Fin.ext (by show row.val = (row.val / 2048 * 2048 + row.val % 2048 / 64 * 64 + row.val % 64) % 65536; omega)
  have hb : row.val / 2048 < 32 := by omega
  have hn : row.val % 2048 / 64 < 32 := by omega
  have hc : col.val / 128 < 4 := by omega
  have ec : col = Cert.KernelIdeal.Hgrn.cl (128 * (⟨col.val / 128, hc⟩ : Fin 4).val) (by show 128 * (col.val / 128) + 128 ≤ 512; omega) ⟨col.val % 128, Nat.mod_lt _ (by decide)⟩ :=
    Fin.ext (by show col.val = 128 * (col.val / 128) + col.val % 128; omega)
  have e1 := Cert.KernelIdeal.Hgrn.G6_res m c (row.val / 2048) (row.val % 2048 / 64) hb hn ⟨row.val % 64, Nat.mod_lt _ (by decide)⟩ ⟨col.val / 128, hc⟩ ⟨col.val % 128, Nat.mod_lt _ (by decide)⟩
  have e2 := Cert.ReferenceIdeal.Hgrn.final_res m' c ⟨row.val / 2048, hb⟩ ⟨col.val / 128, hc⟩ ⟨row.val % 2048 / 64, hn⟩ ⟨row.val % 64, Nat.mod_lt _ (by decide)⟩ ⟨col.val % 128, Nat.mod_lt _ (by decide)⟩ col
    (by show col.val = 128 * (col.val / 128) + col.val % 128; omega)
  rw [h0, h1, h2] at e2
  rw [← ec, ← er] at e1
  rw [show rowOf (⟨row.val / 2048, hb⟩ : Fin 32).val (⟨row.val % 2048 / 64, hn⟩ : Fin 32).val ⟨row.val % 64, Nat.mod_lt _ (by decide)⟩ = row from er.symm] at e2
  exact e2.trans e1.symm

theorem algebraic : Cert.algebraic_KernelIdeal_ReferenceIdeal := by
  intro m ρ m' ρ' _ hagree
  refine ⟨fun c => Cert.KernelIdeal.Value.G6 m c, Cert.KernelIdeal.Value.run m ρ, ?_⟩
  refine (θ_run Cert.ReferenceIdeal.defs _ _).mono (fun r h c => ⟨(h c).1.trans ?_, (h c).2⟩) (Cert.ReferenceIdeal.Hgrn.run m' ρ')
  obtain ⟨h0, h1, h2⟩ := hagree c
  refine funext fun (i : Cert.ReferenceIdeal.S65536x512.Idx) => ?_
  rw [show i = ix2 (i 0) (i 1) from funext fun a => by fin_cases a <;> rfl]
  exact results_eq m m' c h0 h1 h2 (i 0) (i 1)

end Cert.Proof.Hgrn

end
-- ==== Proof.Project.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit.Basic
public import Idealize.ShloMosaic.Lib.StableHlo.RunRead
public import Idealize.ShloMosaic.Lib.Quiescent

/-! # The input projection: each row of x by the regrouped columns of the weights -/

@[expose] public section
set_option maxRecDepth 16384
noncomputable section

namespace Cert.Kernel2Ideal.Project
open Idealize.ShloMosaic Idealize.ShloMosaic.TcCoe Idealize.SL.Sem
open Cert.Kernel2Ideal Cert.Kernel2Ideal.Gen Cert.Kernel2Ideal.Value

variable (m : (ℓ : Loc nD τ sig) → Buf (Elt Ideal) ℓ)

theorem t_lt (t : Fin cfg0.N) : t.val < 256 := lt_of_lt_of_eq t.isLt N_0
theorem idx_all : ∀ t : Fin cfg0.N, (win0_0.index t (0 : Fin 2) = t.val ∧ win0_0.index t (1 : Fin 2) = 0)
    ∧ (win0_1.index t (0 : Fin 2) = 0 ∧ win0_1.index t (1 : Fin 2) = 0) ∧ (win0_2.index t (0 : Fin 2) = t.val ∧ win0_2.index t (1 : Fin 2) = 0)
    ∧ (cfg0.win 2).flush t = true :=
  (by decide +kernel : ∀ t : Fin grid0.N, _)

/-- The weights as the call takes them: the columns regrouped, then a stretch of zeros. -/
def wG (w : Vec Ideal S1024x5320 .f32) : Vec Ideal S1024x5376 .f32 :=
  concatenate S1024x5376 1
    [⟨S1024x512, extractStridedSlice S1024x512 ![0, 0] w slices_S1024x5320_S1024x512_0_0⟩,
     ⟨S1024x512, extractStridedSlice S1024x512 ![0, 640] w slices_S1024x5320_S1024x512_0_640⟩,
     ⟨S1024x512, extractStridedSlice S1024x512 ![0, 1224] w slices_S1024x5320_S1024x512_0_1224⟩,
     ⟨S1024x512, extractStridedSlice S1024x512 ![0, 1736] w slices_S1024x5320_S1024x512_0_1736⟩,
     ⟨S1024x512, extractStridedSlice S1024x512 ![0, 2248] w slices_S1024x5320_S1024x512_0_2248⟩,
     ⟨S1024x512, extractStridedSlice S1024x512 ![0, 2760] w slices_S1024x5320_S1024x512_0_2760⟩,
     ⟨S1024x1024, extractStridedSlice S1024x1024 ![0, 3272] w slices_S1024x5320_S1024x1024_0_3272⟩,
     ⟨S1024x1024, extractStridedSlice S1024x1024 ![0, 4296] w slices_S1024x5320_S1024x1024_0_4296⟩,
     ⟨S1024x128, extractStridedSlice S1024x128 ![0, 512] w slices_S1024x5320_S1024x128_0_512⟩,
     ⟨S1024x64, extractStridedSlice S1024x64 ![0, 1152] w slices_S1024x5320_S1024x64_0_1152⟩,
     ⟨S1024x8, extractStridedSlice S1024x8 ![0, 1216] w slices_S1024x5320_S1024x8_0_1216⟩,
     ⟨S1024x56, broadcastInDim S1024x56 ![] bcast_S_S1024x56 (constant (F := Ideal) S_ .f32 0x00000000#32)⟩]
    concatenates_S1024x512_S1024x512_S1024x512_S1024x512_S1024x512_S1024x512_S1024x1024_S1024x1024_S1024x128_S1024x64_S1024x8_S1024x56_S1024x5376_d1

theorem V_w (c : Dev nD) (k : Fin 1024) (j : Fin 5376) :
    (V m c main_v13 : Vec Ideal S1024x5376 .bf16) (ix2 k j) = wG (m ((c : Thread nD τ).loc main_arg1)) (ix2 k j) := by
  have h : @Eq (FVec Ideal S1024x5376 .bf16) (V m c main_v13) (truncf .bf16 (wG (m ((c : Thread nD τ).loc main_arg1)) : FVec Ideal S1024x5376 .f32) bitsLt_bf16_f32) := by
    unfold V wG
    after_reads_simp
    rfl
  exact congrFun h _

theorem x_at (c : Dev nD) (t : Fin cfg0.N) (r : Fin 256) (k : Fin 1024) :
    iblk m c 0 t (ix2 r k) = m ((c : Thread nD τ).loc main_arg0) (ix2 (⟨256 * t.val + r.val, by have := t_lt t; omega⟩ : Fin 65536) k) := by
  obtain ⟨⟨e0, e1⟩, -⟩ := idx_all t
  refine Eq.trans ?_ (congrFun (V_main_arg0 m c) _)
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 1024 + 1 * k.val = k.val; omega

theorem w_at (c : Dev nD) (t : Fin cfg0.N) (k : Fin 1024) (j : Fin 5376) :
    iblk m c 1 t (ix2 k j) = wG (m ((c : Thread nD τ).loc main_arg1)) (ix2 k j) := by
  obtain ⟨-, ⟨e0, e1⟩, -⟩ := idx_all t
  refine Eq.trans ?_ (V_w m c k j)
  refine congrArg (V m c main_v13) (funext fun a => Fin.ext ?_)
  match a with
  | ⟨0, _⟩ => show win0_1.index t (0 : Fin 2) * 1024 + 1 * k.val = k.val; omega
  | ⟨1, _⟩ => show win0_1.index t (1 : Fin 2) * 5376 + 1 * j.val = j.val; omega

/-- A row of x by a column of the regrouped weights. -/
def prod (x : Vec Ideal S65536x1024 .f32) (w : Vec Ideal S1024x5320 .f32) (i : Fin 65536) (j : Fin 5376) : EReal :=
  ∑ k : Fin 1024, x (ix2 i k) * wG w (ix2 k j)

/-- The body's block by its entries. -/
theorem out_at (x0 : Vec Ideal S256x1024 .f32) (x1 : Vec Ideal S1024x5376 .bf16) (r : Fin 256) (j : Fin 5376) :
    out0_2 x0 x1 (ix2 r j) = ∑ k : Fin 1024, (x0 (ix2 r k) : EReal) * x1 (ix2 k j) := by
  have h : out0_2 x0 x1 = k0_pay1 x0 x1 := by
    unfold out0_2
    rw [View.canon_cons_unit_lit, View.ld_unit_lit, View.ld_unit_lit] <;> decide
  rw [h]
  pointwise [k0_pay1, dot_S256x1024_S1024x5376_S256x5376_1_0_0_1_n_n]

/-- The kernel's result at a row and a column. -/
theorem arr_at (c : Dev nD) (i : Fin 65536) (j : Fin 5376) :
    ((dats m 0 c).arrAt 2 cfg0.N : Vec Ideal S65536x5376 .f32) (ix2 i j)
      = prod (m ((c : Thread nD τ).loc main_arg0)) (m ((c : Thread nD τ).loc main_arg1)) i j := by
  have hN : i.val / 256 < cfg0.N := lt_of_lt_of_eq (by omega) N_0.symm
  set t : Fin cfg0.N := ⟨i.val / 256, hN⟩ with ht
  have hr : i.val % 256 < 256 := Nat.mod_lt _ (by decide)
  obtain ⟨-, -, ⟨e0, e1⟩, hf⟩ := idx_all t
  have hb := (blocks2 m c t hf).trans (flushed2 m c t)
  have hb' := congrFun hb (ix2 (⟨i.val % 256, hr⟩ : Fin 256) j)
  have hl : ((cfg0.win 2).blk t).view.read (Elt Ideal) ((dats m 0 c).arrAt 2 cfg0.N) (ix2 (⟨i.val % 256, hr⟩ : Fin 256) j)
      = ((dats m 0 c).arrAt 2 cfg0.N : Vec Ideal S65536x5376 .f32) (ix2 i j) := by
    refine congrArg ((dats m 0 c).arrAt 2 cfg0.N) (funext fun a => Fin.ext ?_)
    match a with
    | ⟨0, _⟩ => show win0_2.index t (0 : Fin 2) * 256 + 1 * (i.val % 256) = i.val; rw [e0, ht]; show i.val / 256 * 256 + _ = _; omega
    | ⟨1, _⟩ => show win0_2.index t (1 : Fin 2) * 5376 + 1 * j.val = j.val; omega
  refine hl.symm.trans (hb'.trans ?_)
  show out0_2 (iblk m c 0 t) (iblk m c 1 t) (ix2 (⟨i.val % 256, hr⟩ : Fin 256) j) = _
  rw [out_at]
  refine Finset.sum_congr rfl fun k _ => ?_
  rw [x_at, w_at]
  refine congrArg (· * _) (congrArg (m ((c : Thread nD τ).loc main_arg0)) (congrArg (ix2 · k) (Fin.ext ?_)))
  show 256 * (i.val / 256) + i.val % 256 = i.val
  omega

end Cert.Kernel2Ideal.Project

namespace Cert.Reference2Ideal.Project
open Idealize.ShloMosaic Idealize.ShloMosaic.TcCoe
open Cert.Reference2Ideal Cert.Reference2Ideal.Gen

/-- The parts of a product laid side by side as the reference lays them. -/
def parts (p : Vec Ideal S65536x5320 .f32) : Vec Ideal S65536x5376 .f32 :=
  concatenate S65536x5376 1
    [⟨S65536x512, extractStridedSlice S65536x512 ![0, 0] p slices_S65536x5320_S65536x512_0_0⟩,
     ⟨S65536x512, extractStridedSlice S65536x512 ![0, 640] p slices_S65536x5320_S65536x512_0_640⟩,
     ⟨S65536x512, extractStridedSlice S65536x512 ![0, 1224] p slices_S65536x5320_S65536x512_0_1224⟩,
     ⟨S65536x512, extractStridedSlice S65536x512 ![0, 1736] p slices_S65536x5320_S65536x512_0_1736⟩,
     ⟨S65536x512, extractStridedSlice S65536x512 ![0, 2248] p slices_S65536x5320_S65536x512_0_2248⟩,
     ⟨S65536x512, extractStridedSlice S65536x512 ![0, 2760] p slices_S65536x5320_S65536x512_0_2760⟩,
     ⟨S65536x1024, extractStridedSlice S65536x1024 ![0, 3272] p slices_S65536x5320_S65536x1024_0_3272⟩,
     ⟨S65536x1024, extractStridedSlice S65536x1024 ![0, 4296] p slices_S65536x5320_S65536x1024_0_4296⟩,
     ⟨S65536x128, extractStridedSlice S65536x128 ![0, 512] p slices_S65536x5320_S65536x128_0_512⟩,
     ⟨S65536x64, extractStridedSlice S65536x64 ![0, 1152] p slices_S65536x5320_S65536x64_0_1152⟩,
     ⟨S65536x8, extractStridedSlice S65536x8 ![0, 1216] p slices_S65536x5320_S65536x8_0_1216⟩,
     ⟨S65536x56, broadcastInDim S65536x56 ![] bcast_S_S65536x56 (constant (F := Ideal) S_ .f32 0x00000000#32)⟩]
    concatenates_S65536x512_S65536x512_S65536x512_S65536x512_S65536x512_S65536x512_S65536x1024_S65536x1024_S65536x128_S65536x64_S65536x8_S65536x56_S65536x5376_d1

/-- The reference's product at a row and a column. -/
theorem dot_at (x : Vec Ideal S65536x1024 .f32) (w : Vec Ideal S1024x5320 .f32) (i : Fin 65536) (j : Fin 5320) :
    (Host.dotGeneral (F := Ideal) (φ₁ := .f32) (φ₂ := .f32) dot_S65536x1024_S1024x5320_S65536x5320_1_0_0_1_n_n none x w : Vec Ideal S65536x5320 .f32) (ix2 i j)
      = ∑ k : Fin 1024, (x (ix2 i k) : EReal) * w (ix2 k j) := by
  pointwise [dot_S65536x1024_S1024x5320_S65536x5320_1_0_0_1_n_n]

/-- A choice between two sums of products is the sum of the products with the choice. -/
theorem sum_dite {P : Prop} [Decidable P] {n : Nat} (f : Fin n → EReal) (a : P → EReal) (b : ¬P → EReal) (u : P → Fin n → EReal) (v : ¬P → Fin n → EReal)
    (ha : ∀ h, a h = ∑ k, f k * u h k) (hb : ∀ h, b h = ∑ k, f k * v h k) :
    (if h : P then a h else b h) = ∑ k, f k * (if h : P then u h k else v h k) := by
  by_cases h : P
  · simp only [dif_pos h]; exact ha h
  · simp only [dif_neg h]; exact hb h

/-- Laying out the product's columns is multiplying by the weights' columns so laid out. -/
theorem parts_at (x : Vec Ideal S65536x1024 .f32) (w : Vec Ideal S1024x5320 .f32) (p : Vec Ideal S65536x5320 .f32)
    (hp : ∀ (i : Fin 65536) (j : Fin 5320), p (ix2 i j) = ∑ k : Fin 1024, (x (ix2 i k) : EReal) * w (ix2 k j)) (i : Fin 65536) (j : Fin 5376) :
    parts p (ix2 i j) = Cert.Kernel2Ideal.Project.prod x w i j := by
  unfold Cert.Kernel2Ideal.Project.prod
  pointwise [parts, Cert.Kernel2Ideal.Project.wG]
  iterate 11 refine sum_dite _ _ _ _ _ (fun _ => hp _ _) (fun _ => ?_)
  simp only [mul_zero, Finset.sum_const_zero]

end Cert.Reference2Ideal.Project

namespace Cert.Proof.Project
open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
/-- The reference declares no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem algebraic : Cert.algebraic_Kernel2Ideal_Reference2Ideal := by
  intro m ρ m' ρ' _ hagree
  refine ⟨fun c => (Cert.Kernel2Ideal.Gen.dats m 0 c).arrAt 2 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run m' ρ')
  obtain ⟨h0, h1⟩ := hagree c
  rw [h0, h1]
  refine funext fun (i : Cert.Reference2Ideal.S65536x5376.Idx) => ?_
  rw [show i = ix2 (i 0) (i 1) from funext fun a => by fin_cases a <;> rfl]
  refine Eq.trans ?_ (Cert.Kernel2Ideal.Project.arr_at m c (i 0) (i 1)).symm
  exact Cert.Reference2Ideal.Project.parts_at _ _ _ (Cert.Reference2Ideal.Project.dot_at _ _) (i 0) (i 1)

end Cert.Proof.Project

end
-- ==== Proof.MergeBody.lean ====
module

public import proofs.«01_k».proof.Proof.Gen.Kernel3Ideal.Value
public import Idealize.ShloMosaic.Lib.Pipeline.ValueKit.Basic
public import Idealize.ShloMosaic.Lib.Pointwise
public import Idealize.ShloMosaic.Lib.StableHlo.RunRead

/-! # What the merge's body leaves at a grid point -/

@[expose] public section
set_option maxRecDepth 16384
noncomputable section
namespace Cert.Kernel3Ideal.Merge
open Idealize.ShloMosaic Idealize.ShloMosaic.TcCoe
open Cert.Kernel3Ideal Cert.Kernel3Ideal.Gen
variable {F : FTy → Type} [FloatOps F] [Named F]

/-- The normalised rows of a block. -/
def rows (x0 x1 : Vec F S256x512 .f32) (x2 x3 x4 : Vec F S256x1024 .f32) (x5 x6 : Vec F S512x1024 .bf16) (x7 : Vec F S1024x1024 .bf16) (x8 x9 : Vec F S1x1024 .f32) : FVec F S256x1024 .f32 :=
  k0_pay8 (k0_pay5 x0 x5 x1 x6 x2 x3 x7 x4) x8 x9 (k0_pay6 x0 x5 x1 x6 x2 x3 x7 x4) (k0_pay7 x0 x5 x1 x6 x2 x3 x7 x4)

/-- A stretch of 128 columns as a plane of the second result. -/
def lane (o : Nat) (h : S256x1024.Slices ![0, o] S256x128) (y : FVec F S256x1024 .f32) : FVec F S256x1x128 .f32 :=
  shapeCast S256x1x128 (extractStridedSlice S256x128 ![0, o] y h) shapeCasts_S256x128_S256x1x128

theorem out10 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x8x128 .f32) (harg12 : arg12.IsWhole)
    (x0 : Vec F S256x512 .f32) (x1 : Vec F S256x512 .f32) (x2 : Vec F S256x1024 .f32) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1x1024 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = rows x0 x1 x2 x3 x4 x5 x6 x7 x8 x9 := by
  unfold out0_A_10
  rw [View.read_writes_junk_eq_canon]
  unfold kernelRun0_A
  dsimp only
  sl_unfold_words
  simp (disch := decide) only [View.readAt_eq_ld, View.ld_unit_lit, View.canon_cons_unit_lit, harg1.read_unread, harg2.read_unread, harg3.read_unread, harg4.read_unread, harg5.read_unread, harg6.read_unread, harg7.read_unread, harg8.read_unread, harg9.read_unread, harg10.read_unread]
  rfl

theorem out11 (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .f32) (harg11 : arg11.IsWhole) (arg12 : Memref sig .tc .vmem S256x8x128 .f32) (harg12 : arg12.IsWhole)
    (x0 : Vec F S256x512 .f32) (x1 : Vec F S256x512 .f32) (x2 : Vec F S256x1024 .f32) (x3 : Vec F S256x1024 .f32) (x4 : Vec F S256x1024 .f32) (x5 : Vec F S512x1024 .bf16) (x6 : Vec F S512x1024 .bf16) (x7 : Vec F S1024x1024 .bf16) (x8 : Vec F S1x1024 .f32) (x9 : Vec F S1x1024 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9
      = View.canon ([⟨Rect.unit ![0, 7, 0] S256x1x128.size inb_S256x8x128_S256x1x128_0_7_0, lane 896 slices_S256x1024_o0_896_S256x128 (rows x0 x1 x2 x3 x4 x5 x6 x7 x8 x9)⟩,
         ⟨Rect.unit ![0, 6, 0] S256x1x128.size inb_S256x8x128_S256x1x128_0_6_0, lane 768 slices_S256x1024_o0_768_S256x128 (rows x0 x1 x2 x3 x4 x5 x6 x7 x8 x9)⟩,
         ⟨Rect.unit ![0, 5, 0] S256x1x128.size inb_S256x8x128_S256x1x128_0_5_0, lane 640 slices_S256x1024_o0_640_S256x128 (rows x0 x1 x2 x3 x4 x5 x6 x7 x8 x9)⟩,
         ⟨Rect.unit ![0, 4, 0] S256x1x128.size inb_S256x8x128_S256x1x128_0_4_0, lane 512 slices_S256x1024_o0_512_S256x128 (rows x0 x1 x2 x3 x4 x5 x6 x7 x8 x9)⟩,
         ⟨Rect.unit ![0, 3, 0] S256x1x128.size inb_S256x8x128_S256x1x128_0_3_0, lane 384 slices_S256x1024_o0_384_S256x128 (rows x0 x1 x2 x3 x4 x5 x6 x7 x8 x9)⟩,
         ⟨Rect.unit ![0, 2, 0] S256x1x128.size inb_S256x8x128_S256x1x128_0_2_0, lane 256 slices_S256x1024_o0_256_S256x128 (rows x0 x1 x2 x3 x4 x5 x6 x7 x8 x9)⟩,
         ⟨Rect.unit ![0, 1, 0] S256x1x128.size inb_S256x8x128_S256x1x128_0_1_0, lane 128 slices_S256x1024_o0_128_S256x128 (rows x0 x1 x2 x3 x4 x5 x6 x7 x8 x9)⟩,
         ⟨Rect.unit ![0, 0, 0] S256x1x128.size inb_S256x8x128_S256x1x128_0_0_0, lane 0 slices_S256x1024_o0_0_S256x128 (rows x0 x1 x2 x3 x4 x5 x6 x7 x8 x9)⟩] : List (View.Piece (Elt F) S256x8x128 .f32)) := by
  unfold out0_A_11
  rw [View.read_writes_junk_eq_canon]
  unfold kernelRun0_A
  dsimp only
  sl_unfold_words
  simp (disch := decide) only [View.readAt_eq_ld, View.ld_unit_lit, harg1.read_unread, harg2.read_unread, harg3.read_unread, harg4.read_unread, harg5.read_unread, harg6.read_unread, harg7.read_unread, harg8.read_unread, harg9.read_unread, harg10.read_unread]
  rfl

end Cert.Kernel3Ideal.Merge
-- ==== Proof.MergeRef.lean ====
module

public import proofs.«01_k».proof.Proof.Gen.Reference3Ideal.Run
public import Idealize.ShloMosaic.Lib.Pointwise

/-! # The merge's reference in stages, read at a row and a column -/

@[expose] public section
set_option maxRecDepth 16384
noncomputable section

namespace Cert.Merge
open Idealize.ShloMosaic

/-- The residual's factor, the fourth root of two. -/
def alpha : EReal := ((Real.sqrt (Real.sqrt 2) : ℝ) : EReal)

/-- A row and a column of the residual sum: the gated branches through the output weights, added to the scaled row. -/
def mixed (A B : Fin 512 → EReal) (GA GB X : Fin 1024 → EReal) (WA WB : Fin 512 → Fin 1024 → EReal) (WO : Fin 1024 → Fin 1024 → EReal) (j : Fin 1024) : EReal :=
  alpha * X j + ∑ k, (Ideal.logistic (GA k) * ∑ a, A a * WA a k + Ideal.logistic (GB k) * ∑ a, B a * WB a k) * WO k j

/-- The mean of a row. -/
def mean (y : Fin 1024 → EReal) : EReal := Ideal.div (∑ k, y k) (Ideal.ofBits .f32 1149239296#32)

/-- A row's layer norm. -/
def norm (y G B : Fin 1024 → EReal) (j : Fin 1024) : EReal :=
  (y j - mean y) * Ideal.rsqrt (mean (fun k => (y k - mean y) * (y k - mean y)) + Ideal.ofBits .f32 925353388#32) * G j + B j

end Cert.Merge

namespace Cert.Reference3Ideal.Merge
open Idealize.ShloMosaic Idealize.ShloMosaic.TcCoe
open Cert.Reference3Ideal Cert.Reference3Ideal.Gen Cert.Merge

section stages
variable (A B : FVec Ideal S65536x512 .f32) (P : FVec Ideal S65536x5376 .f32) (X : FVec Ideal S65536x1024 .f32) (WA WB : FVec Ideal S512x1024 .f32)
  (WO : FVec Ideal S1024x1024 .f32) (G L : FVec Ideal S1x1024 .f32)

/-- The logistic of every entry. -/
def gate (z : FVec Ideal S65536x1024 .f32) : FVec Ideal S65536x1024 .f32 :=
  Host.divf (broadcastInDim S65536x1024 ![] bcast_S_S65536x1024 (constant S_ .f32 0x3F800000#32))
    (addf (broadcastInDim S65536x1024 ![] bcast_S_S65536x1024 (constant S_ .f32 0x3F800000#32)) (Host.exp (Host.negf z)))

/-- The gated branches. -/
def gated : FVec Ideal S65536x1024 .f32 :=
  addf (mulf (gate (extractStridedSlice S65536x1024 ![0, 3072] P slices_S65536x5376_S65536x1024_0_3072))
      (Host.dotGeneral dot_S65536x512_S512x1024_S65536x1024_1_0_0_1_n_n none A WA))
    (mulf (gate (extractStridedSlice S65536x1024 ![0, 4096] P slices_S65536x5376_S65536x1024_0_4096))
      (Host.dotGeneral dot_S65536x512_S512x1024_S65536x1024_1_0_0_1_n_n none B WB))

/-- The residual sum. -/
def resid : FVec Ideal S65536x1024 .f32 :=
  addf (mulf (broadcastInDim S65536x1024 ![] bcast_S_S65536x1024 (Host.sqrt (Host.sqrt (constant S_ .f32 0x40000000#32)))) X)
    (Host.dotGeneral dot_S65536x1024_S1024x1024_S65536x1024_1_0_0_1_n_n none (gated A B P WA WB) WO)

/-- The means of the rows. -/
def means (y : FVec Ideal S65536x1024 .f32) : FVec Ideal S65536x1 .f32 :=
  Host.divf (broadcastInDim S65536x1 ![0] bcast_S65536_S65536x1_0 (Host.reduceAdd y (constant S_ .f32 0x00000000#32) reducesTo_S65536x1024_S65536_d1 h_S_))
    (broadcastInDim S65536x1 ![] bcast_S_S65536x1 (constant S_ .f32 0x44800000#32))

/-- The rows less their means. -/
def centred (y : FVec Ideal S65536x1024 .f32) : FVec Ideal S65536x1024 .f32 :=
  subf y (broadcastInDim S65536x1024 ![0, 1] bcast_S65536x1_S65536x1024_0_1 (means y))

/-- The layer norm of the rows. -/
def normed (y : FVec Ideal S65536x1024 .f32) : FVec Ideal S65536x1024 .f32 :=
  addf (mulf (mulf (centred y) (broadcastInDim S65536x1024 ![0, 1] bcast_S65536x1_S65536x1024_0_1
      (Host.rsqrt (addf (means (mulf (centred y) (centred y))) (broadcastInDim S65536x1 ![] bcast_S_S65536x1 (constant S_ .f32 0x3727C5AC#32))))))
      (broadcastInDim S65536x1024 ![0, 1] bcast_S1x1024_S65536x1024_0_1 (broadcastInDim S1x1024 ![1] bcast_S1024_S1x1024_1 (shapeCast S1024 G shapeCasts_S1x1024_S1024))))
    (broadcastInDim S65536x1024 ![0, 1] bcast_S1x1024_S65536x1024_0_1 (broadcastInDim S1x1024 ![1] bcast_S1024_S1x1024_1 (shapeCast S1024 L shapeCasts_S1x1024_S1024)))

theorem two : Ideal.ofBits .f32 0x40000000#32 = ((2 : ℝ) : EReal) := by
  simp [Ideal.ofBits, Ideal.ieee, -EReal.coe_mul]; norm_num

theorem gate_at (z : FVec Ideal S65536x1024 .f32) (i : Fin 65536) (k : Fin 1024) : gate z (ix2 i k) = Ideal.logistic (z (ix2 i k)) := by
  pointwise [gate]
  rfl

theorem gated_at (i : Fin 65536) (k : Fin 1024) : gated A B P WA WB (ix2 i k)
    = Ideal.logistic (P (ix2 i (⟨3072 + k.val, by omega⟩ : Fin 5376))) * ∑ a : Fin 512, (A (ix2 i a) : EReal) * WA (ix2 a k)
      + Ideal.logistic (P (ix2 i (⟨4096 + k.val, by omega⟩ : Fin 5376))) * ∑ a : Fin 512, (B (ix2 i a) : EReal) * WB (ix2 a k) := by
  pointwise [gated, gate_at, dot_S65536x512_S512x1024_S65536x1024_1_0_0_1_n_n]

theorem resid_at (i : Fin 65536) (j : Fin 1024) : resid A B P X WA WB WO (ix2 i j)
    = mixed (fun a => A (ix2 i a)) (fun a => B (ix2 i a)) (fun k => P (ix2 i (⟨3072 + k.val, by omega⟩ : Fin 5376))) (fun k => P (ix2 i (⟨4096 + k.val, by omega⟩ : Fin 5376)))
        (fun k => X (ix2 i k)) (fun a k => WA (ix2 a k)) (fun a k => WB (ix2 a k)) (fun k l => WO (ix2 k l)) j := by
  pointwise [resid, gated_at, dot_S65536x1024_S1024x1024_S65536x1024_1_0_0_1_n_n]
  unfold mixed alpha
  rw [two, Ideal.sqrt_coe, if_neg (by norm_num), Ideal.sqrt_coe, if_neg (not_lt.mpr (Real.sqrt_nonneg 2))]

theorem means_at (y : FVec Ideal S65536x1024 .f32) (i : Fin 65536) : means y (ix2 i (0 : Fin 1)) = mean fun k => y (ix2 i k) := by
  pointwise [means]
  rfl

theorem normed_at (y : FVec Ideal S65536x1024 .f32) (i : Fin 65536) (j : Fin 1024) :
    normed G L y (ix2 i j) = norm (fun k => y (ix2 i k)) (fun k => G (ix2 (0 : Fin 1) k)) (fun k => L (ix2 (0 : Fin 1) k)) j := by
  pointwise [normed, centred, means_at]
  rfl
end stages

variable (m : (ℓ : Loc nD τ sig) → Buf (Elt Ideal) ℓ)

/-- The reference's rows, of its arguments. -/
def out (c : Dev nD) : FVec Ideal S65536x1024 .f32 :=
  normed (m ((c.tc : Thread nD τ).loc main_arg7)) (m ((c.tc : Thread nD τ).loc main_arg8))
    (resid (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)))

theorem v50 (c : Dev nD) : @Eq (FVec Ideal S65536x1024 .f32) (Value.res_main_v50 m c) (out m c) := rfl
theorem v51 (c : Dev nD) : @Eq (FVec Ideal S65536x8x128 .f32) (Value.res_main_v51 m c) (shapeCast S65536x8x128 (out m c) shapeCasts_S65536x1024_S65536x8x128) := rfl

theorem cast_at (y : FVec Ideal S65536x1024 .f32) (i : Fin 65536) (q : Fin 8) (d : Fin 128) :
    shapeCast S65536x8x128 y shapeCasts_S65536x1024_S65536x8x128 (ix3 i q d) = y (ix2 i (⟨q.val * 128 + d.val, by omega⟩ : Fin 1024)) := by
  pointwise []
end Cert.Reference3Ideal.Merge
-- ==== Proof.Merge.lean ====
module

public import proofs.«01_k».proof.Defs
public import proofs.«01_k».proof.Proof.MergeBody
public import proofs.«01_k».proof.Proof.MergeRef
public import proofs.«01_k».proof.Proof.Gen.Kernel3.Frame
public import Idealize.ShloMosaic.Lib.Quiescent

/-! # The merge: the kernel's rows are the reference's -/

@[expose] public section
set_option maxRecDepth 16384
noncomputable section

namespace Cert.Kernel3Ideal.Merge
open Idealize.ShloMosaic Idealize.ShloMosaic.TcCoe
open Cert.Kernel3Ideal Cert.Kernel3Ideal.Gen Cert.Kernel3Ideal.Value Cert.Merge

section block
variable (x0 x1 : Vec Ideal S256x512 .f32) (x2 x3 x4 : Vec Ideal S256x1024 .f32) (x5 x6 : Vec Ideal S512x1024 .bf16) (x7 : Vec Ideal S1024x1024 .bf16) (x8 x9 : Vec Ideal S1x1024 .f32)

theorem named_alpha : (Named.named (F := Ideal) κ "alpha" 0x3F9837F0#32 : Ideal .f32) = alpha := rfl

theorem pay5_at (r : Fin 256) (j : Fin 1024) : k0_pay5 x0 x5 x1 x6 x2 x3 x7 x4 (ix2 r j)
    = mixed (fun a => x0 (ix2 r a)) (fun a => x1 (ix2 r a)) (fun k => x2 (ix2 r k)) (fun k => x3 (ix2 r k)) (fun k => x4 (ix2 r k))
        (fun a k => x5 (ix2 a k)) (fun a k => x6 (ix2 a k)) (fun k l => x7 (ix2 k l)) j := by
  pointwise [k0_pay5, dot_S256x512_S512x1024_S256x1024_1_0_0_1_n_n, dot_S256x1024_S1024x1024_S256x1024_1_0_0_1_n_n]
  unfold mixed
  rw [← named_alpha]

theorem pay6_at (r : Fin 256) : k0_pay6 x0 x5 x1 x6 x2 x3 x7 x4 (ix2 r (0 : Fin 1)) = mean fun j => k0_pay5 x0 x5 x1 x6 x2 x3 x7 x4 (ix2 r j) := by
  generalize hy : k0_pay5 x0 x5 x1 x6 x2 x3 x7 x4 = y
  unfold k0_pay6
  rw [hy]
  pointwise []
  rfl

theorem pay7_at (r : Fin 256) (j : Fin 1024) : k0_pay7 x0 x5 x1 x6 x2 x3 x7 x4 (ix2 r j)
    = k0_pay5 x0 x5 x1 x6 x2 x3 x7 x4 (ix2 r j) - k0_pay6 x0 x5 x1 x6 x2 x3 x7 x4 (ix2 r (0 : Fin 1)) := by
  generalize hy : k0_pay5 x0 x5 x1 x6 x2 x3 x7 x4 = y
  generalize hu : k0_pay6 x0 x5 x1 x6 x2 x3 x7 x4 = u
  unfold k0_pay7
  rw [hy, hu]
  pointwise []

/-- A row and a column of the normalised block. -/
theorem rows_at (r : Fin 256) (j : Fin 1024) : rows x0 x1 x2 x3 x4 x5 x6 x7 x8 x9 (ix2 r j)
    = norm (mixed (fun a => x0 (ix2 r a)) (fun a => x1 (ix2 r a)) (fun k => x2 (ix2 r k)) (fun k => x3 (ix2 r k)) (fun k => x4 (ix2 r k))
        (fun a k => x5 (ix2 a k)) (fun a k => x6 (ix2 a k)) (fun k l => x7 (ix2 k l))) (fun k => x8 (ix2 (0 : Fin 1) k)) (fun k => x9 (ix2 (0 : Fin 1) k)) j := by
  have h6 := pay6_at x0 x1 x2 x3 x4 x5 x6 x7 r
  have h7 := pay7_at x0 x1 x2 x3 x4 x5 x6 x7 r
  have h5 := pay5_at x0 x1 x2 x3 x4 x5 x6 x7 r
  unfold rows
  generalize k0_pay5 x0 x5 x1 x6 x2 x3 x7 x4 = y at h5 h6 h7 ⊢
  generalize k0_pay6 x0 x5 x1 x6 x2 x3 x7 x4 = u at h6 h7 ⊢
  generalize k0_pay7 x0 x5 x1 x6 x2 x3 x7 x4 = z at h7 ⊢
  pointwise [k0_pay8]
  simp only [h7, h6, h5]
  rfl

theorem lane_at (o : Nat) (h : S256x1024.Slices ![0, o] S256x128) (y : FVec Ideal S256x1024 .f32) (ho : o + 128 ≤ 1024) (r : Fin 256) (d : Fin 128) :
    lane o h y (ix3 r (0 : Fin 1) d) = y (ix2 r (⟨o + d.val, by omega⟩ : Fin 1024)) := by
  pointwise [lane]
end block

/-- A plane stored last is read back. -/
theorem lane_hit (o : Nat) (inb : ∀ a, (![0, o, 0] : Fin 3 → Nat) a + (![256, 1, 128] : Fin 3 → Nat) a ≤ S256x8x128.size a)
    (p : Vec Ideal S256x1x128 .f32) (L : List (View.Piece (Elt Ideal) S256x8x128 .f32)) (q : Fin 8) (ho : q.val = o) (r : Fin 256) (d : Fin 128) :
    View.canon ((⟨Rect.unit ![0, o, 0] ![256, 1, 128] inb, p⟩ : View.Piece (Elt Ideal) S256x8x128 .f32) :: L) (ix3 r q d) = p (ix3 r (0 : Fin 1) d) := by
  have emb : (Rect.unit (s := S256x8x128) ![0, o, 0] ![256, 1, 128] inb).emb (ix3 r (0 : Fin 1) d) = ix3 r q d :=
    funext fun a => Fin.ext (by
      match a with
      | ⟨0, _⟩ => show 0 + 1 * r.val = r.val; omega
      | ⟨1, _⟩ => show o + 1 * 0 = q.val; omega
      | ⟨2, _⟩ => show 0 + 1 * d.val = d.val; omega)
  rw [← emb]
  exact View.canon_cons_emb _ _ _ _

/-- A plane stored at another place is passed over. -/
theorem lane_miss (o : Nat) (inb : ∀ a, (![0, o, 0] : Fin 3 → Nat) a + S256x1x128.size a ≤ S256x8x128.size a)
    (p : Vec Ideal S256x1x128 .f32) (L : List (View.Piece (Elt Ideal) S256x8x128 .f32)) (q : Fin 8) (ho : q.val ≠ o) (r : Fin 256) (d : Fin 128) :
    View.canon ((⟨Rect.unit ![0, o, 0] S256x1x128.size inb, p⟩ : View.Piece (Elt Ideal) S256x8x128 .f32) :: L) (ix3 r q d) = View.canon L (ix3 r q d) := by
  refine View.canon_cons_of_not_mem _ _ fun hm => ?_
  have h0 := (Rect.mem_set_unit (inb := inb)).mp hm (1 : Fin 3)
  have : o ≤ q.val ∧ q.val < o + 1 := h0
  omega

/-- The eight planes are the block's columns, 128 to a plane. -/
theorem lanes_at (y : FVec Ideal S256x1024 .f32) (r : Fin 256) (q : Fin 8) (d : Fin 128) :
    View.canon ([⟨Rect.unit ![0, 7, 0] S256x1x128.size inb_S256x8x128_S256x1x128_0_7_0, lane 896 slices_S256x1024_o0_896_S256x128 y⟩,
      ⟨Rect.unit ![0, 6, 0] S256x1x128.size inb_S256x8x128_S256x1x128_0_6_0, lane 768 slices_S256x1024_o0_768_S256x128 y⟩,
      ⟨Rect.unit ![0, 5, 0] S256x1x128.size inb_S256x8x128_S256x1x128_0_5_0, lane 640 slices_S256x1024_o0_640_S256x128 y⟩,
      ⟨Rect.unit ![0, 4, 0] S256x1x128.size inb_S256x8x128_S256x1x128_0_4_0, lane 512 slices_S256x1024_o0_512_S256x128 y⟩,
      ⟨Rect.unit ![0, 3, 0] S256x1x128.size inb_S256x8x128_S256x1x128_0_3_0, lane 384 slices_S256x1024_o0_384_S256x128 y⟩,
      ⟨Rect.unit ![0, 2, 0] S256x1x128.size inb_S256x8x128_S256x1x128_0_2_0, lane 256 slices_S256x1024_o0_256_S256x128 y⟩,
      ⟨Rect.unit ![0, 1, 0] S256x1x128.size inb_S256x8x128_S256x1x128_0_1_0, lane 128 slices_S256x1024_o0_128_S256x128 y⟩,
      ⟨Rect.unit ![0, 0, 0] S256x1x128.size inb_S256x8x128_S256x1x128_0_0_0, lane 0 slices_S256x1024_o0_0_S256x128 y⟩] : List (View.Piece (Elt Ideal) S256x8x128 .f32)) (ix3 r q d) = y (ix2 r (⟨q.val * 128 + d.val, by omega⟩ : Fin 1024)) := by
  match q with
  | 0 => rw [lane_miss 7 _ _ _ _ (by decide), lane_miss 6 _ _ _ _ (by decide), lane_miss 5 _ _ _ _ (by decide), lane_miss 4 _ _ _ _ (by decide), lane_miss 3 _ _ _ _ (by decide), lane_miss 2 _ _ _ _ (by decide), lane_miss 1 _ _ _ _ (by decide), lane_hit 0 _ _ _ _ rfl, lane_at 0 _ _ (by omega)]; exact congrArg y (congrArg (ix2 r) (Fin.ext (by show 0 + d.val = 0 * 128 + d.val; omega)))
  | 1 => rw [lane_miss 7 _ _ _ _ (by decide), lane_miss 6 _ _ _ _ (by decide), lane_miss 5 _ _ _ _ (by decide), lane_miss 4 _ _ _ _ (by decide), lane_miss 3 _ _ _ _ (by decide), lane_miss 2 _ _ _ _ (by decide), lane_hit 1 _ _ _ _ rfl, lane_at 128 _ _ (by omega)]; exact congrArg y (congrArg (ix2 r) (Fin.ext (by show 128 + d.val = 1 * 128 + d.val; omega)))
  | 2 => rw [lane_miss 7 _ _ _ _ (by decide), lane_miss 6 _ _ _ _ (by decide), lane_miss 5 _ _ _ _ (by decide), lane_miss 4 _ _ _ _ (by decide), lane_miss 3 _ _ _ _ (by decide), lane_hit 2 _ _ _ _ rfl, lane_at 256 _ _ (by omega)]; exact congrArg y (congrArg (ix2 r) (Fin.ext (by show 256 + d.val = 2 * 128 + d.val; omega)))
  | 3 => rw [lane_miss 7 _ _ _ _ (by decide), lane_miss 6 _ _ _ _ (by decide), lane_miss 5 _ _ _ _ (by decide), lane_miss 4 _ _ _ _ (by decide), lane_hit 3 _ _ _ _ rfl, lane_at 384 _ _ (by omega)]; exact congrArg y (congrArg (ix2 r) (Fin.ext (by show 384 + d.val = 3 * 128 + d.val; omega)))
  | 4 => rw [lane_miss 7 _ _ _ _ (by decide), lane_miss 6 _ _ _ _ (by decide), lane_miss 5 _ _ _ _ (by decide), lane_hit 4 _ _ _ _ rfl, lane_at 512 _ _ (by omega)]; exact congrArg y (congrArg (ix2 r) (Fin.ext (by show 512 + d.val = 4 * 128 + d.val; omega)))
  | 5 => rw [lane_miss 7 _ _ _ _ (by decide), lane_miss 6 _ _ _ _ (by decide), lane_hit 5 _ _ _ _ rfl, lane_at 640 _ _ (by omega)]; exact congrArg y (congrArg (ix2 r) (Fin.ext (by show 640 + d.val = 5 * 128 + d.val; omega)))
  | 6 => rw [lane_miss 7 _ _ _ _ (by decide), lane_hit 6 _ _ _ _ rfl, lane_at 768 _ _ (by omega)]; exact congrArg y (congrArg (ix2 r) (Fin.ext (by show 768 + d.val = 6 * 128 + d.val; omega)))
  | 7 => rw [lane_hit 7 _ _ _ _ rfl, lane_at 896 _ _ (by omega)]; exact congrArg y (congrArg (ix2 r) (Fin.ext (by show 896 + d.val = 7 * 128 + d.val; omega)))

variable (m : (ℓ : Loc nD τ sig) → Buf (Elt Ideal) ℓ)

theorem t_lt (t : Fin cfg0.N) : t.val < 256 := lt_of_lt_of_eq t.isLt N_0
theorem idx_all : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 3)
    ∧ (win0_3.index t (0 : Fin 2) = t.val ∧ win0_3.index t (1 : Fin 2) = 4)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0)
    ∧ (win0_11.index t (0 : Fin 3) = t.val ∧ win0_11.index t (1 : Fin 3) = 0 ∧ win0_11.index t (2 : Fin 3) = 0)
    ∧ (cfg0.win 10).flush t = true ∧ (cfg0.win 11).flush t = true :=
  (by decide +kernel : ∀ t : Fin grid0.N, _)

theorem x0_at (c : Dev nD) (t : Fin cfg0.N) (r : Fin 256) (k : Fin 512) :
    iblk m c 0 t (ix2 r k) = m ((c : Thread nD τ).loc main_arg0) (ix2 (⟨256 * t.val + r.val, by have := t_lt t; omega⟩ : Fin 65536) k) := by
  obtain ⟨⟨e0, e1⟩, -⟩ := idx_all t
  refine Eq.trans ?_ (congrFun (V_main_arg0 m c) _)
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 512 + 1 * k.val = k.val; omega

theorem x1_at (c : Dev nD) (t : Fin cfg0.N) (r : Fin 256) (k : Fin 512) :
    iblk m c 1 t (ix2 r k) = m ((c : Thread nD τ).loc main_arg1) (ix2 (⟨256 * t.val + r.val, by have := t_lt t; omega⟩ : Fin 65536) k) := by
  obtain ⟨-, ⟨e0, e1⟩, -⟩ := idx_all t
  refine Eq.trans ?_ (congrFun (V_main_arg1 m c) _)
  refine congrArg (V m c main_arg1) (funext fun a => Fin.ext ?_)
  match a with
  | ⟨0, _⟩ => show win0_1.index t (0 : Fin 2) * 256 + 1 * r.val = 256 * t.val + r.val; omega
  | ⟨1, _⟩ => show win0_1.index t (1 : Fin 2) * 512 + 1 * k.val = k.val; omega

theorem x4_at (c : Dev nD) (t : Fin cfg0.N) (r : Fin 256) (k : Fin 1024) :
    iblk m c 4 t (ix2 r k) = m ((c : Thread nD τ).loc main_arg3) (ix2 (⟨256 * t.val + r.val, by have := t_lt t; omega⟩ : Fin 65536) k) := by
  obtain ⟨-, -, -, -, ⟨e0, e1⟩, -⟩ := idx_all t
  refine Eq.trans ?_ (congrFun (V_main_arg3 m c) _)
  refine congrArg (V m c main_arg3) (funext fun a => Fin.ext ?_)
  match a with
  | ⟨0, _⟩ => show win0_4.index t (0 : Fin 2) * 256 + 1 * r.val = 256 * t.val + r.val; omega
  | ⟨1, _⟩ => show win0_4.index t (1 : Fin 2) * 1024 + 1 * k.val = k.val; omega

theorem x2_at (c : Dev nD) (t : Fin cfg0.N) (r : Fin 256) (k : Fin 1024) :
    X0_2 m c t (ix2 r k) = m ((c : Thread nD τ).loc main_arg2) (ix2 (⟨256 * t.val + r.val, by have := t_lt t; omega⟩ : Fin 65536) (⟨3072 + k.val, by omega⟩ : Fin 5376)) := by
  obtain ⟨-, -, ⟨e0, e1⟩, -⟩ := idx_all t
  unfold X0_2 Pipeline.Window.fill
  rw [dif_pos (moved0_2 t _)]
  refine Eq.trans ?_ (congrFun (V_main_arg2 m c) _)
  refine congrArg (V m c main_arg2) (funext fun a => Fin.ext ?_)
  match a with
  | ⟨0, _⟩ => show win0_2.index t (0 : Fin 2) * 256 + 1 * r.val = 256 * t.val + r.val; omega
  | ⟨1, _⟩ => show win0_2.index t (1 : Fin 2) * 1024 + 1 * k.val = 3072 + k.val; omega

theorem x3_at (c : Dev nD) (t : Fin cfg0.N) (r : Fin 256) (k : Fin 1024) :
    X0_3 m c t (ix2 r k) = m ((c : Thread nD τ).loc main_arg2) (ix2 (⟨256 * t.val + r.val, by have := t_lt t; omega⟩ : Fin 65536) (⟨4096 + k.val, by omega⟩ : Fin 5376)) := by
  obtain ⟨-, -, -, ⟨e0, e1⟩, -⟩ := idx_all t
  unfold X0_3 Pipeline.Window.fill
  rw [dif_pos (moved0_3 t _)]
  refine Eq.trans ?_ (congrFun (V_main_arg2 m c) _)
  refine congrArg (V m c main_arg2) (funext fun a => Fin.ext ?_)
  match a with
  | ⟨0, _⟩ => show win0_3.index t (0 : Fin 2) * 256 + 1 * r.val = 256 * t.val + r.val; omega
  | ⟨1, _⟩ => show win0_3.index t (1 : Fin 2) * 1024 + 1 * k.val = 4096 + k.val; omega

theorem x5_at (c : Dev nD) (t : Fin cfg0.N) (a : Fin 512) (k : Fin 1024) :
    iblk m c 5 t (ix2 a k) = m ((c : Thread nD τ).loc main_arg4) (ix2 a k) := by
  obtain ⟨-, -, -, -, -, ⟨e0, e1⟩, -⟩ := idx_all t
  have h : @Eq (FVec Ideal S512x1024 .bf16) (V m c main_v0) (truncf .bf16 (m ((c : Thread nD τ).loc main_arg4) : FVec Ideal S512x1024 .f32) bitsLt_bf16_f32) := by
    unfold V
    after_reads_simp
  refine Eq.trans ?_ (congrFun h (ix2 a k))
  refine congrArg (V m c main_v0) (funext fun b => Fin.ext ?_)
  match b with
  | ⟨0, _⟩ => show win0_5.index t (0 : Fin 2) * 512 + 1 * a.val = a.val; omega
  | ⟨1, _⟩ => show win0_5.index t (1 : Fin 2) * 1024 + 1 * k.val = k.val; omega

theorem x6_at (c : Dev nD) (t : Fin cfg0.N) (a : Fin 512) (k : Fin 1024) :
    iblk m c 6 t (ix2 a k) = m ((c : Thread nD τ).loc main_arg5) (ix2 a k) := by
  obtain ⟨-, -, -, -, -, -, ⟨e0, e1⟩, -⟩ := idx_all t
  have h : @Eq (FVec Ideal S512x1024 .bf16) (V m c main_v1) (truncf .bf16 (m ((c : Thread nD τ).loc main_arg5) : FVec Ideal S512x1024 .f32) bitsLt_bf16_f32) := by
    unfold V
    after_reads_simp
  refine Eq.trans ?_ (congrFun h (ix2 a k))
  refine congrArg (V m c main_v1) (funext fun b => Fin.ext ?_)
  match b with
  | ⟨0, _⟩ => show win0_6.index t (0 : Fin 2) * 512 + 1 * a.val = a.val; omega
  | ⟨1, _⟩ => show win0_6.index t (1 : Fin 2) * 1024 + 1 * k.val = k.val; omega

theorem x7_at (c : Dev nD) (t : Fin cfg0.N) (a : Fin 1024) (k : Fin 1024) :
    iblk m c 7 t (ix2 a k) = m ((c : Thread nD τ).loc main_arg6) (ix2 a k) := by
  obtain ⟨-, -, -, -, -, -, -, ⟨e0, e1⟩, -⟩ := idx_all t
  have h : @Eq (FVec Ideal S1024x1024 .bf16) (V m c main_v2) (truncf .bf16 (m ((c : Thread nD τ).loc main_arg6) : FVec Ideal S1024x1024 .f32) bitsLt_bf16_f32) := by
    unfold V
    after_reads_simp
  refine Eq.trans ?_ (congrFun h (ix2 a k))
  refine congrArg (V m c main_v2) (funext fun b => Fin.ext ?_)
  match b with
  | ⟨0, _⟩ => show win0_7.index t (0 : Fin 2) * 1024 + 1 * a.val = a.val; omega
  | ⟨1, _⟩ => show win0_7.index t (1 : Fin 2) * 1024 + 1 * k.val = k.val; omega

theorem x8_at (c : Dev nD) (t : Fin cfg0.N) (k : Fin 1024) :
    iblk m c 8 t (ix2 (0 : Fin 1) k) = m ((c : Thread nD τ).loc main_arg7) (ix2 (0 : Fin 1) k) := by
  obtain ⟨-, -, -, -, -, -, -, -, ⟨e0, e1⟩, -⟩ := idx_all t
  refine Eq.trans ?_ (congrFun (V_main_arg7 m c) _)
  refine congrArg (V m c main_arg7) (funext fun b => Fin.ext ?_)
  match b with
  | ⟨0, _⟩ => show win0_8.index t (0 : Fin 2) * 1 + 1 * 0 = 0; omega
  | ⟨1, _⟩ => show win0_8.index t (1 : Fin 2) * 1024 + 1 * k.val = k.val; omega

theorem x9_at (c : Dev nD) (t : Fin cfg0.N) (k : Fin 1024) :
    iblk m c 9 t (ix2 (0 : Fin 1) k) = m ((c : Thread nD τ).loc main_arg8) (ix2 (0 : Fin 1) k) := by
  obtain ⟨-, -, -, -, -, -, -, -, -, ⟨e0, e1⟩, -⟩ := idx_all t
  refine Eq.trans ?_ (congrFun (V_main_arg8 m c) _)
  refine congrArg (V m c main_arg8) (funext fun b => Fin.ext ?_)
  match b with
  | ⟨0, _⟩ => show win0_9.index t (0 : Fin 2) * 1 + 1 * 0 = 0; omega
  | ⟨1, _⟩ => show win0_9.index t (1 : Fin 2) * 1024 + 1 * k.val = k.val; omega

/-- The merge's result at a row and a column, of the arguments. -/
def res (c : Dev nD) (i : Fin 65536) (j : Fin 1024) : EReal :=
  norm (mixed (fun a => m ((c : Thread nD τ).loc main_arg0) (ix2 i a)) (fun a => m ((c : Thread nD τ).loc main_arg1) (ix2 i a))
      (fun k => m ((c : Thread nD τ).loc main_arg2) (ix2 i (⟨3072 + k.val, by omega⟩ : Fin 5376))) (fun k => m ((c : Thread nD τ).loc main_arg2) (ix2 i (⟨4096 + k.val, by omega⟩ : Fin 5376)))
      (fun k => m ((c : Thread nD τ).loc main_arg3) (ix2 i k)) (fun a k => m ((c : Thread nD τ).loc main_arg4) (ix2 a k)) (fun a k => m ((c : Thread nD τ).loc main_arg5) (ix2 a k))
      (fun k l => m ((c : Thread nD τ).loc main_arg6) (ix2 k l))) (fun k => m ((c : Thread nD τ).loc main_arg7) (ix2 (0 : Fin 1) k)) (fun k => m ((c : Thread nD τ).loc main_arg8) (ix2 (0 : Fin 1) k)) j

/-- The rows of a grid point's block. -/
def blockRows (c : Dev nD) (t : Fin cfg0.N) : FVec Ideal S256x1024 .f32 :=
  rows (iblk m c 0 t) (iblk m c 1 t) (X0_2 m c t) (X0_3 m c t) (iblk m c 4 t) (iblk m c 5 t) (iblk m c 6 t) (iblk m c 7 t) (iblk m c 8 t) (iblk m c 9 t)

theorem blockRows_at (c : Dev nD) (i : Fin 65536) (t : Fin cfg0.N) (r : Fin 256) (hi : i.val = 256 * t.val + r.val) (j : Fin 1024) :
    blockRows m c t (ix2 r j) = res m c i j := by
  unfold blockRows res
  rw [rows_at]
  have e : (⟨256 * t.val + r.val, by have := t_lt t; omega⟩ : Fin 65536) = i := Fin.ext hi.symm
  simp only [x0_at, x1_at, x2_at, x3_at, x4_at, x5_at, x6_at, x7_at, x8_at, x9_at, e]

/-- The first result at a row and a column. -/
theorem arr10_at (c : Dev nD) (i : Fin 65536) (j : Fin 1024) :
    ((dats m 0 c).arrAt 10 cfg0.N : Vec Ideal S65536x1024 .f32) (ix2 i j) = res m c i j := by
  have hN : i.val / 256 < cfg0.N := lt_of_lt_of_eq (by omega) N_0.symm
  set t : Fin cfg0.N := ⟨i.val / 256, hN⟩ with ht
  have hr : i.val % 256 < 256 := Nat.mod_lt _ (by decide)
  obtain ⟨-, -, -, -, -, -, -, -, -, -, ⟨e0, e1⟩, -, hf, -⟩ := idx_all t
  have hb := congrFun ((blocks10 m c t hf).trans (flushed10_A m c t)) (ix2 (⟨i.val % 256, hr⟩ : Fin 256) j)
  have hl : ((cfg0.win 10).blk t).view.read (Elt Ideal) ((dats m 0 c).arrAt 10 cfg0.N) (ix2 (⟨i.val % 256, hr⟩ : Fin 256) j)
      = ((dats m 0 c).arrAt 10 cfg0.N : Vec Ideal S65536x1024 .f32) (ix2 i j) := by
    refine congrArg ((dats m 0 c).arrAt 10 cfg0.N) (funext fun a => Fin.ext ?_)
    match a with
    | ⟨0, _⟩ => show win0_10.index t (0 : Fin 2) * 256 + 1 * (i.val % 256) = i.val; rw [e0, ht]; show i.val / 256 * 256 + _ = _; omega
    | ⟨1, _⟩ => show win0_10.index t (1 : Fin 2) * 1024 + 1 * j.val = j.val; omega
  refine hl.symm.trans (hb.trans ?_)
  rw [out10]
  exact blockRows_at m c i t ⟨i.val % 256, hr⟩ (by show i.val = 256 * (i.val / 256) + i.val % 256; omega) j

/-- The second result at a row, a plane and a column of the plane. -/
theorem arr11_at (c : Dev nD) (i : Fin 65536) (q : Fin 8) (d : Fin 128) :
    ((dats m 0 c).arrAt 11 cfg0.N : Vec Ideal S65536x8x128 .f32) (ix3 i q d) = res m c i ⟨q.val * 128 + d.val, by omega⟩ := by
  have hN : i.val / 256 < cfg0.N := lt_of_lt_of_eq (by omega) N_0.symm
  set t : Fin cfg0.N := ⟨i.val / 256, hN⟩ with ht
  have hr : i.val % 256 < 256 := Nat.mod_lt _ (by decide)
  obtain ⟨-, -, -, -, -, -, -, -, -, -, -, ⟨e0, e1, e2⟩, -, hf⟩ := idx_all t
  have hb := congrFun ((blocks11 m c t hf).trans (flushed11_A m c t)) (ix3 (⟨i.val % 256, hr⟩ : Fin 256) q d)
  have hl : ((cfg0.win 11).blk t).view.read (Elt Ideal) ((dats m 0 c).arrAt 11 cfg0.N) (ix3 (⟨i.val % 256, hr⟩ : Fin 256) q d)
      = ((dats m 0 c).arrAt 11 cfg0.N : Vec Ideal S65536x8x128 .f32) (ix3 i q d) := by
    refine congrArg ((dats m 0 c).arrAt 11 cfg0.N) (funext fun a => Fin.ext ?_)
    match a with
    | ⟨0, _⟩ => show win0_11.index t (0 : Fin 3) * 256 + 1 * (i.val % 256) = i.val; rw [e0, ht]; show i.val / 256 * 256 + _ = _; omega
    | ⟨1, _⟩ => show win0_11.index t (1 : Fin 3) * 8 + 1 * q.val = q.val; omega
    | ⟨2, _⟩ => show win0_11.index t (2 : Fin 3) * 128 + 1 * d.val = d.val; omega
  refine hl.symm.trans (hb.trans ?_)
  rw [out11]
  exact (lanes_at (blockRows m c t) ⟨i.val % 256, hr⟩ q d).trans
    (blockRows_at m c i t ⟨i.val % 256, hr⟩ (by show i.val = 256 * (i.val / 256) + i.val % 256; omega) _)

end Cert.Kernel3Ideal.Merge

namespace Cert.Proof.Merge
open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
/-- The reference declares no semaphore. -/
theorem frame_ri : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run m ρ)

/-- The residual's factor is named the fourth root of two. -/
theorem preserves : Cert.preserves_Kernel3_Kernel3Ideal :=
  IdealRules.named_const.statement Cert.Kernel3Ideal.κ "alpha" .f32 0x3F9837F0#32 ((Real.sqrt (Real.sqrt 2) : ℝ) : EReal) rfl

theorem out_at (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    (i : Fin 65536) (j : Fin 1024) : Cert.Reference3Ideal.Merge.out m' c (ix2 i j) = Cert.Kernel3Ideal.Merge.res m c i j := by
  unfold Cert.Reference3Ideal.Merge.out Cert.Kernel3Ideal.Merge.res
  rw [Cert.Reference3Ideal.Merge.normed_at]
  simp only [Cert.Reference3Ideal.Merge.resid_at]
  rw [h0, h1, h2, h3, h4, h5, h6, h7, h8]

theorem algebraic : Cert.algebraic_Kernel3Ideal_Reference3Ideal := by
  intro m ρ m' ρ' _ hagree
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    Cert.Kernel3Ideal.Value.run_blocks m ρ, ?_⟩
  refine (θ_run Cert.Reference3Ideal.defs _ _).mono (fun r h c => ?_) (Cert.Reference3Ideal.Value.run m' ρ')
  obtain ⟨h0, h1, h2, h3, h4, h5, h6, h7, h8⟩ := hagree c
  refine ⟨(h c).1.trans ?_, (h c).2.1.trans ?_, (h c).2.2⟩
  · refine (Cert.Reference3Ideal.Merge.v50 m' c).trans (funext fun (i : Cert.Reference3Ideal.S65536x1024.Idx) => ?_)
    rw [show i = ix2 (i 0) (i 1) from funext fun a => by fin_cases a <;> rfl]
    exact (out_at m m' c h0 h1 h2 h3 h4 h5 h6 h7 h8 (i 0) (i 1)).trans (Cert.Kernel3Ideal.Merge.arr10_at m c (i 0) (i 1)).symm
  · refine (Cert.Reference3Ideal.Merge.v51 m' c).trans (funext fun (i : Cert.Reference3Ideal.S65536x8x128.Idx) => ?_)
    rw [show i = ix3 (i 0) (i 1) (i 2) from funext fun a => by fin_cases a <;> rfl]
    exact ((Cert.Reference3Ideal.Merge.cast_at _ (i 0) (i 1) (i 2)).trans (out_at m m' c h0 h1 h2 h3 h4 h5 h6 h7 h8 (i 0) _)).trans (Cert.Kernel3Ideal.Merge.arr11_at m c (i 0) (i 1) (i 2)).symm

end Cert.Proof.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Hgrn
public import proofs.«01_k».proof.Proof.Project
public import proofs.«01_k».proof.Proof.Merge
public import Idealize.ShloMosaic.Adequacy
public import Idealize.ShloMosaic.Init

@[expose] public section

noncomputable section

namespace Cert.Proof

/-- Five claims for each of the three calls: the three frames, the ideal program is the kernel (with the merge's factor named),
and kernel and reference compute one function. Of the routing, the two frames and that the ideal program is the kernel. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  Hgrn.frame_p, Hgrn.frame_pi, Hgrn.frame_ri, Project.frame_p, Project.frame_pi, Project.frame_ri,
  Merge.frame_p, Merge.frame_pi, Merge.frame_ri,
  fun m ρ _ => Cert.Kernel4.Gen.frame m ρ, fun m ρ _ => Cert.Kernel4Ideal.Gen.frame m ρ,
  trivial, Hgrn.algebraic, trivial, Project.algebraic, Merge.preserves, Merge.algebraic, trivial⟩

end Cert.Proof

end
